-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S512x2048 : Shape := ⟨2, ![512, 2048]⟩
abbrev S2048x256 : Shape := ⟨2, ![2048, 256]⟩
abbrev S4x1024x256 : Shape := ⟨3, ![4, 1024, 256]⟩
abbrev S1024x4096 : Shape := ⟨2, ![1024, 4096]⟩
abbrev S2 : Shape := ⟨1, ![2]⟩
abbrev S4 : Shape := ⟨1, ![4]⟩
abbrev S16 : Shape := ⟨1, ![16]⟩
abbrev S1 : Shape := ⟨1, ![1]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 3
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S2048x2048, .bf16⟩
  | .local _ .vmem, ⟨1, _⟩ => ⟨S512x2048, .f32⟩
  | .local _ .vmem, ⟨2, _⟩ => ⟨S512x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S4x1024x256, .bf16⟩
  | .local _ .vmem, ⟨11, _⟩ => ⟨S4x1024x256, .bf16⟩
  | .local _ .vmem, ⟨12, _⟩ => ⟨S1024x4096, .bf16⟩
  | .local _ .vmem, ⟨13, _⟩ => ⟨S1024x4096, .bf16⟩
  | .local _ .vmem, ⟨14, _⟩ => ⟨S4x1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_8 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v10 : BitVec 32 := Scalar.muli v5 c4096_i32
  let v11 : BitVec 32 := Scalar.addi v10 c0_i32
  ![0, v11.toNat]
def k0_dev1 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v61 : BitVec 32 := Scalar.muli v6 c2_i32_44
  let v62 : BitVec 32 := Scalar.addi c0_i32_45 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v63 : BitVec 32 := Scalar.muli v5 c1_i32_46
  let v64 : BitVec 32 := Scalar.addi v62 v63
  v64.toNat
def k0_dev2 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v65 : BitVec 32 := Scalar.muli v2 c2_i32_48
  let v66 : BitVec 32 := Scalar.addi c0_i32_49 v65
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_50 : BitVec 32 := 1#32
  let v67 : BitVec 32 := Scalar.muli v7 c1_i32_50
  let v68 : BitVec 32 := Scalar.addi v66 v67
  v68.toNat
def k0_off2 (d0 : Dev nD) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_4 : BitVec 32 := 1024#32
  let v9 : BitVec 32 := Scalar.muli v6 c1024_i32_4
  let v90 : Index := Scalar.indexCast v9
  let c0_71 : Index := 0#32
  ![v90.toNat, 0]
def k0_dev3 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v96 : BitVec 32 := Scalar.muli v6 c2_i32_78
  let v97 : BitVec 32 := Scalar.addi c0_i32_79 v96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v98 : BitVec 32 := Scalar.muli v5 c1_i32_80
  let v99 : BitVec 32 := Scalar.addi v97 v98
  v99.toNat
def k0_dev4 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v134 : BitVec 32 := Scalar.muli v6 c2_i32_112
  let v135 : BitVec 32 := Scalar.addi c0_i32_113 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v136 : BitVec 32 := Scalar.muli v5 c1_i32_114
  let v137 : BitVec 32 := Scalar.addi v135 v136
  v137.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v156 : Index := Scalar.indexCast v8
  let c0_131 : Index := 0#32
  ![v156.toNat, 0]
def k0_dev5 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v171 : BitVec 32 := Scalar.muli v2 c2_i32_142
  let v172 : BitVec 32 := Scalar.addi c0_i32_143 v171
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_144 : BitVec 32 := 1#32
  let v173 : BitVec 32 := Scalar.muli v7 c1_i32_144
  let v174 : BitVec 32 := Scalar.addi v172 v173
  v174.toNat
def k0_off4 (d0 : Dev nD) (c0_i32_120 : BitVec 32) : Fin 2 → Nat :=
  let c0_i32_150 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_119 : BitVec 32 := 4096#32
  let v145 : BitVec 32 := Scalar.muli v5 c4096_i32_119
  let v146 : BitVec 32 := Scalar.addi v145 c0_i32_120
  ![0, v146.toNat]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c0_i32_151 : BitVec 32 := 0#32
  ![v8.toNat, 0]
def k0_dev6 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v213 : BitVec 32 := Scalar.muli v6 c2_i32_178
  let v214 : BitVec 32 := Scalar.addi c0_i32_179 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v215 : BitVec 32 := Scalar.muli v5 c1_i32_180
  let v216 : BitVec 32 := Scalar.addi v214 v215
  v216.toNat
def k0_dev7 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v250 : BitVec 32 := Scalar.muli v2 c2_i32_207
  let v251 : BitVec 32 := Scalar.addi c0_i32_208 v250
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_209 : BitVec 32 := 1#32
  let v252 : BitVec 32 := Scalar.muli v7 c1_i32_209
  let v253 : BitVec 32 := Scalar.addi v251 v252
  v253.toNat
def k0_dev8 (d0 : Dev nD) : Nat :=
  let c0_i32_244 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_243 : BitVec 32 := 2#32
  let v292 : BitVec 32 := Scalar.muli v6 c2_i32_243
  let v293 : BitVec 32 := Scalar.addi c0_i32_244 v292
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_245 : BitVec 32 := 1#32
  let v294 : BitVec 32 := Scalar.muli v5 c1_i32_245
  let v295 : BitVec 32 := Scalar.addi v293 v294
  v295.toNat
def k0_dev9 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_273 : BitVec 32 := 2#32
  let v329 : BitVec 32 := Scalar.muli v2 c2_i32_273
  let v330 : BitVec 32 := Scalar.addi c0_i32_274 v329
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_275 : BitVec 32 := 1#32
  let v331 : BitVec 32 := Scalar.muli v7 c1_i32_275
  let v332 : BitVec 32 := Scalar.addi v330 v331
  v332.toNat
def k0_off6 (d0 : Dev nD) (c0_i32_284 : BitVec 32) : Fin 2 → Nat :=
  let c0_i32_302 : BitVec 32 := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c4096_i32_283 : BitVec 32 := 4096#32
  let v344 : BitVec 32 := Scalar.muli v7 c4096_i32_283
  let v345 : BitVec 32 := Scalar.addi v344 c0_i32_284
  ![0, v345.toNat]
def k0_dev10 (d0 : Dev nD) : Nat :=
  let c0_i32_343 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_342 : BitVec 32 := 2#32
  let v401 : BitVec 32 := Scalar.muli v6 c2_i32_342
  let v402 : BitVec 32 := Scalar.addi c0_i32_343 v401
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_344 : BitVec 32 := 1#32
  let v403 : BitVec 32 := Scalar.muli v5 c1_i32_344
  let v404 : BitVec 32 := Scalar.addi v402 v403
  v404.toNat
def k0_dev11 (d0 : Dev nD) : Nat :=
  let c0_i32_372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_371 : BitVec 32 := 2#32
  let v438 : BitVec 32 := Scalar.muli v2 c2_i32_371
  let v439 : BitVec 32 := Scalar.addi c0_i32_372 v438
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_373 : BitVec 32 := 1#32
  let v440 : BitVec 32 := Scalar.muli v7 c1_i32_373
  let v441 : BitVec 32 := Scalar.addi v439 v440
  v441.toNat
def k0_dev12 (d0 : Dev nD) : Nat :=
  let c0_i32_442 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_441 : BitVec 32 := 2#32
  let v510 : BitVec 32 := Scalar.muli v6 c2_i32_441
  let v511 : BitVec 32 := Scalar.addi c0_i32_442 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v512 : BitVec 32 := Scalar.muli v5 c1_i32_443
  let v513 : BitVec 32 := Scalar.addi v511 v512
  v513.toNat
def k0_dev13 (d0 : Dev nD) : Nat :=
  let c0_i32_480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_479 : BitVec 32 := 2#32
  let v552 : BitVec 32 := Scalar.muli v2 c2_i32_479
  let v553 : BitVec 32 := Scalar.addi c0_i32_480 v552
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_481 : BitVec 32 := 1#32
  let v554 : BitVec 32 := Scalar.muli v7 c1_i32_481
  let v555 : BitVec 32 := Scalar.addi v553 v554
  v555.toNat
def k0_dev14 (d0 : Dev nD) : Nat :=
  let c0_i32_549 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_548 : BitVec 32 := 2#32
  let v624 : BitVec 32 := Scalar.muli v6 c2_i32_548
  let v625 : BitVec 32 := Scalar.addi c0_i32_549 v624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_550 : BitVec 32 := 1#32
  let v626 : BitVec 32 := Scalar.muli v5 c1_i32_550
  let v627 : BitVec 32 := Scalar.addi v625 v626
  v627.toNat
def k0_dev15 (d0 : Dev nD) : Nat :=
  let c0_i32_586 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_585 : BitVec 32 := 2#32
  let v666 : BitVec 32 := Scalar.muli v2 c2_i32_585
  let v667 : BitVec 32 := Scalar.addi c0_i32_586 v666
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_587 : BitVec 32 := 1#32
  let v668 : BitVec 32 := Scalar.muli v7 c1_i32_587
  let v669 : BitVec 32 := Scalar.addi v667 v668
  v669.toNat
def k0_dev16 (d0 : Dev nD) : Nat :=
  let c0_i32_655 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_654 : BitVec 32 := 2#32
  let v738 : BitVec 32 := Scalar.muli v6 c2_i32_654
  let v739 : BitVec 32 := Scalar.addi c0_i32_655 v738
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_656 : BitVec 32 := 1#32
  let v740 : BitVec 32 := Scalar.muli v5 c1_i32_656
  let v741 : BitVec 32 := Scalar.addi v739 v740
  v741.toNat
def k0_dev17 (d0 : Dev nD) : Nat :=
  let c0_i32_693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_692 : BitVec 32 := 2#32
  let v780 : BitVec 32 := Scalar.muli v2 c2_i32_692
  let v781 : BitVec 32 := Scalar.addi c0_i32_693 v780
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_694 : BitVec 32 := 1#32
  let v782 : BitVec 32 := Scalar.muli v7 c1_i32_694
  let v783 : BitVec 32 := Scalar.addi v781 v782
  v783.toNat
def k0_dev18 (d0 : Dev nD) : Nat :=
  let c0_i32_767 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_766 : BitVec 32 := 2#32
  let v857 : BitVec 32 := Scalar.muli v6 c2_i32_766
  let v858 : BitVec 32 := Scalar.addi c0_i32_767 v857
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_768 : BitVec 32 := 1#32
  let v859 : BitVec 32 := Scalar.muli v5 c1_i32_768
  let v860 : BitVec 32 := Scalar.addi v858 v859
  v860.toNat
def k0_dev19 (d0 : Dev nD) : Nat :=
  let c0_i32_804 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_803 : BitVec 32 := 2#32
  let v899 : BitVec 32 := Scalar.muli v2 c2_i32_803
  let v900 : BitVec 32 := Scalar.addi c0_i32_804 v899
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_805 : BitVec 32 := 1#32
  let v901 : BitVec 32 := Scalar.muli v7 c1_i32_805
  let v902 : BitVec 32 := Scalar.addi v900 v901
  v902.toNat
def k0_dev20 (d0 : Dev nD) : Nat :=
  let c0_i32_878 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_877 : BitVec 32 := 2#32
  let v976 : BitVec 32 := Scalar.muli v6 c2_i32_877
  let v977 : BitVec 32 := Scalar.addi c0_i32_878 v976
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_879 : BitVec 32 := 1#32
  let v978 : BitVec 32 := Scalar.muli v5 c1_i32_879
  let v979 : BitVec 32 := Scalar.addi v977 v978
  v979.toNat
def k0_dev21 (d0 : Dev nD) : Nat :=
  let c0_i32_915 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_914 : BitVec 32 := 2#32
  let v1018 : BitVec 32 := Scalar.muli v2 c2_i32_914
  let v1019 : BitVec 32 := Scalar.addi c0_i32_915 v1018
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_916 : BitVec 32 := 1#32
  let v1020 : BitVec 32 := Scalar.muli v7 c1_i32_916
  let v1021 : BitVec 32 := Scalar.addi v1019 v1020
  v1021.toNat
def k0_dev22 (d0 : Dev nD) : Nat :=
  let c0_i32_989 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_988 : BitVec 32 := 2#32
  let v1095 : BitVec 32 := Scalar.muli v6 c2_i32_988
  let v1096 : BitVec 32 := Scalar.addi c0_i32_989 v1095
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_990 : BitVec 32 := 1#32
  let v1097 : BitVec 32 := Scalar.muli v5 c1_i32_990
  let v1098 : BitVec 32 := Scalar.addi v1096 v1097
  v1098.toNat
def k0_dev23 (d0 : Dev nD) : Nat :=
  let c0_i32_1026 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1025 : BitVec 32 := 2#32
  let v1137 : BitVec 32 := Scalar.muli v2 c2_i32_1025
  let v1138 : BitVec 32 := Scalar.addi c0_i32_1026 v1137
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1027 : BitVec 32 := 1#32
  let v1139 : BitVec 32 := Scalar.muli v7 c1_i32_1027
  let v1140 : BitVec 32 := Scalar.addi v1138 v1139
  v1140.toNat
def k0_dev24 (d0 : Dev nD) : Nat :=
  let c0_i32_1100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1099 : BitVec 32 := 2#32
  let v1214 : BitVec 32 := Scalar.muli v6 c2_i32_1099
  let v1215 : BitVec 32 := Scalar.addi c0_i32_1100 v1214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1101 : BitVec 32 := 1#32
  let v1216 : BitVec 32 := Scalar.muli v5 c1_i32_1101
  let v1217 : BitVec 32 := Scalar.addi v1215 v1216
  v1217.toNat
def k0_dev25 (d0 : Dev nD) : Nat :=
  let c0_i32_1137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1136 : BitVec 32 := 2#32
  let v1256 : BitVec 32 := Scalar.muli v2 c2_i32_1136
  let v1257 : BitVec 32 := Scalar.addi c0_i32_1137 v1256
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1138 : BitVec 32 := 1#32
  let v1258 : BitVec 32 := Scalar.muli v7 c1_i32_1138
  let v1259 : BitVec 32 := Scalar.addi v1257 v1258
  v1259.toNat
def k0_dev26 (d0 : Dev nD) : Nat :=
  let c0_i32_1211 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1210 : BitVec 32 := 2#32
  let v1333 : BitVec 32 := Scalar.muli v6 c2_i32_1210
  let v1334 : BitVec 32 := Scalar.addi c0_i32_1211 v1333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1212 : BitVec 32 := 1#32
  let v1335 : BitVec 32 := Scalar.muli v5 c1_i32_1212
  let v1336 : BitVec 32 := Scalar.addi v1334 v1335
  v1336.toNat
def k0_dev27 (d0 : Dev nD) : Nat :=
  let c0_i32_1248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1247 : BitVec 32 := 2#32
  let v1375 : BitVec 32 := Scalar.muli v2 c2_i32_1247
  let v1376 : BitVec 32 := Scalar.addi c0_i32_1248 v1375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1249 : BitVec 32 := 1#32
  let v1377 : BitVec 32 := Scalar.muli v7 c1_i32_1249
  let v1378 : BitVec 32 := Scalar.addi v1376 v1377
  v1378.toNat
def k0_dev28 (d0 : Dev nD) : Nat :=
  let c0_i32_1322 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1321 : BitVec 32 := 2#32
  let v1452 : BitVec 32 := Scalar.muli v6 c2_i32_1321
  let v1453 : BitVec 32 := Scalar.addi c0_i32_1322 v1452
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1323 : BitVec 32 := 1#32
  let v1454 : BitVec 32 := Scalar.muli v5 c1_i32_1323
  let v1455 : BitVec 32 := Scalar.addi v1453 v1454
  v1455.toNat
def k0_dev29 (d0 : Dev nD) : Nat :=
  let c0_i32_1359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1358 : BitVec 32 := 2#32
  let v1494 : BitVec 32 := Scalar.muli v2 c2_i32_1358
  let v1495 : BitVec 32 := Scalar.addi c0_i32_1359 v1494
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1360 : BitVec 32 := 1#32
  let v1496 : BitVec 32 := Scalar.muli v7 c1_i32_1360
  let v1497 : BitVec 32 := Scalar.addi v1495 v1496
  v1497.toNat
def k0_dev30 (d0 : Dev nD) : Nat :=
  let c0_i32_1433 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1432 : BitVec 32 := 2#32
  let v1571 : BitVec 32 := Scalar.muli v6 c2_i32_1432
  let v1572 : BitVec 32 := Scalar.addi c0_i32_1433 v1571
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1434 : BitVec 32 := 1#32
  let v1573 : BitVec 32 := Scalar.muli v5 c1_i32_1434
  let v1574 : BitVec 32 := Scalar.addi v1572 v1573
  v1574.toNat
def k0_dev31 (d0 : Dev nD) : Nat :=
  let c0_i32_1470 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1469 : BitVec 32 := 2#32
  let v1613 : BitVec 32 := Scalar.muli v2 c2_i32_1469
  let v1614 : BitVec 32 := Scalar.addi c0_i32_1470 v1613
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1471 : BitVec 32 := 1#32
  let v1615 : BitVec 32 := Scalar.muli v7 c1_i32_1471
  let v1616 : BitVec 32 := Scalar.addi v1614 v1615
  v1616.toNat
def k0_dev32 (d0 : Dev nD) : Nat :=
  let c0_i32_1539 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1538 : BitVec 32 := 2#32
  let v1684 : BitVec 32 := Scalar.muli v6 c2_i32_1538
  let v1685 : BitVec 32 := Scalar.addi c0_i32_1539 v1684
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1540 : BitVec 32 := 1#32
  let v1686 : BitVec 32 := Scalar.muli v5 c1_i32_1540
  let v1687 : BitVec 32 := Scalar.addi v1685 v1686
  v1687.toNat
def k0_dev33 (d0 : Dev nD) : Nat :=
  let c0_i32_1576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1575 : BitVec 32 := 2#32
  let v1726 : BitVec 32 := Scalar.muli v2 c2_i32_1575
  let v1727 : BitVec 32 := Scalar.addi c0_i32_1576 v1726
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1577 : BitVec 32 := 1#32
  let v1728 : BitVec 32 := Scalar.muli v7 c1_i32_1577
  let v1729 : BitVec 32 := Scalar.addi v1727 v1728
  v1729.toNat
def k0_dev34 (d0 : Dev nD) : Nat :=
  let c0_i32_1643 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1642 : BitVec 32 := 2#32
  let v1798 : BitVec 32 := Scalar.muli v2 c2_i32_1642
  let v1799 : BitVec 32 := Scalar.addi c0_i32_1643 v1798
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1644 : BitVec 32 := 1#32
  let v1800 : BitVec 32 := Scalar.muli v7 c1_i32_1644
  let v1801 : BitVec 32 := Scalar.addi v1799 v1800
  v1801.toNat
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import Idealize.ShloMosaic.Lib.Pipeline.Regions

@[expose] public section

set_option maxRecDepth 16384

/-! # The kernel's body, written by chunks

The printed body is one straight line of some two thousand statements: a prologue that brings the
device's rows of `x` in, a barrier with the two neighbours, sixteen chunks of 256 columns, and a
drain. Here the same line is written with the chunk's number as a variable, so that each step is
proved once; `bodyAt0_eq` says that the printed body is this one. -/

noncomputable section

namespace Cert.KernelIdeal.Flow

open Idealize.ShloMosaic Idealize.ShloMosaic.TcCoe
open Idealize.SL Idealize.SL.Sem
open Cert.KernelIdeal.Gen

variable {F : FTy → Type} [FloatOps F]

/-! ## The buffers -/

/-- The device's block of `x`. -/
abbrev xIn : Memref sig .tc .hbm S2048x2048 .f32 := Memref.whole main_arg0
/-- The device's block of `dy`. -/
abbrev dyIn : Memref sig .tc .hbm S2048x8192 .f32 := Memref.whole main_arg1
/-- The device's block of the result. -/
abbrev outM : Memref sig .tc .hbm S1024x8192 .f32 := Memref.whole main_v1
/-- `x` rounded to bf16. -/
abbrev xbM : Memref sig .tc .vmem S2048x2048 .bf16 := Memref.whole cc0_scratch0
/-- One chunk of `dy` rounded to bf16. -/
abbrev dybM : Memref sig .tc .vmem S2048x256 .bf16 := Memref.whole cc0_scratch5
/-- The four staging slots of the exchange along `x`. -/
abbrev sbM : Memref sig .tc .vmem S4x1024x256 .bf16 := Memref.whole cc0_scratch10
/-- The four staging slots of the exchange along `y`. -/
abbrev ybM : Memref sig .tc .vmem S4x1024x256 .bf16 := Memref.whole cc0_scratch11
/-- Where the `x` neighbour's chunks land. -/
abbrev rxM : Memref sig .tc .vmem S1024x4096 .bf16 := Memref.whole cc0_scratch12
/-- Where the `y` neighbour's chunks land. -/
abbrev ryM : Memref sig .tc .vmem S1024x4096 .bf16 := Memref.whole cc0_scratch13
/-- The four slots from which the `y` neighbour's chunks are stored. -/
abbrev ytM : Memref sig .tc .vmem S4x1024x256 .f32 := Memref.whole cc0_scratch14

/-- The two buffers into which slabs of `x` are loaded. -/
def xlB (i : ℕ) : Memref sig .tc .vmem S512x2048 .f32 :=
  match i % 2 with
  | 0 => Memref.whole cc0_scratch1
  | _ => Memref.whole cc0_scratch2

/-- The two buffers into which chunks of `dy` are loaded. -/
def dyB (n : ℕ) : Memref sig .tc .vmem S2048x256 .f32 :=
  match n % 2 with
  | 0 => Memref.whole cc0_scratch3
  | _ => Memref.whole cc0_scratch4

/-- The four buffers of chunk products. -/
def pB (n : ℕ) : Memref sig .tc .vmem S2048x256 .f32 :=
  match n % 4 with
  | 0 => Memref.whole cc0_scratch6
  | 1 => Memref.whole cc0_scratch7
  | 2 => Memref.whole cc0_scratch8
  | _ => Memref.whole cc0_scratch9

/-! ## Rectangles -/

/-- A slab lies within `x`. -/
theorem inb_slab (i : ℕ) : ∀ a, (![512 * (i % 4), 0] : Fin 2 → ℕ) a + S512x2048.size a ≤ S2048x2048.size a := by
  have h : ∀ k : Fin 4, ∀ a, (![512 * k.val, 0] : Fin 2 → ℕ) a + S512x2048.size a ≤ S2048x2048.size a := by decide
  exact h ⟨i % 4, Nat.mod_lt _ (by decide)⟩

/-- A slot lies within its buffer. -/
theorem inb_slot (n : ℕ) : ∀ a, (![n % 4, 0, 0] : Fin 3 → ℕ) a + S1x1024x256.size a ≤ S4x1024x256.size a := by
  have h : ∀ k : Fin 4, ∀ a, (![k.val, 0, 0] : Fin 3 → ℕ) a + S1x1024x256.size a ≤ S4x1024x256.size a := by decide
  exact h ⟨n % 4, Nat.mod_lt _ (by decide)⟩

/-- A column block lies within its landing buffer. -/
theorem inb_cols (n : ℕ) : ∀ a, (![0, 256 * (n % 16)] : Fin 2 → ℕ) a + S1024x256.size a ≤ S1024x4096.size a := by
  have h : ∀ k : Fin 16, ∀ a, (![0, 256 * k.val] : Fin 2 → ℕ) a + S1024x256.size a ≤ S1024x4096.size a := by decide
  exact h ⟨n % 16, Nat.mod_lt _ (by decide)⟩

/-- A number modulo two picks one of two semaphores. -/
theorem inb_s2 (n : ℕ) : ∀ a, (![n % 2] : Fin 1 → ℕ) a + S1.size a ≤ S2.size a := by
  have h : ∀ k : Fin 2, ∀ a, (![k.val] : Fin 1 → ℕ) a + S1.size a ≤ S2.size a := by decide
  exact h ⟨n % 2, Nat.mod_lt _ (by decide)⟩

/-- A number modulo four picks one of four semaphores. -/
theorem inb_s4 (n : ℕ) : ∀ a, (![n % 4] : Fin 1 → ℕ) a + S1.size a ≤ S4.size a := by
  have h : ∀ k : Fin 4, ∀ a, (![k.val] : Fin 1 → ℕ) a + S1.size a ≤ S4.size a := by decide
  exact h ⟨n % 4, Nat.mod_lt _ (by decide)⟩

/-- A number modulo sixteen picks one of sixteen semaphores. -/
theorem inb_s16 (n : ℕ) : ∀ a, (![n % 16] : Fin 1 → ℕ) a + S1.size a ≤ S16.size a := by
  have h : ∀ k : Fin 16, ∀ a, (![k.val] : Fin 1 → ℕ) a + S1.size a ≤ S16.size a := by decide
  exact h ⟨n % 16, Nat.mod_lt _ (by decide)⟩

/-- Rows `512 i …` of a 2048 × 2048 array. -/
abbrev slabR (i : ℕ) : Rect S2048x2048 := Rect.unit (s := S2048x2048) ![512 * (i % 4), 0] S512x2048.size (inb_slab i)
/-- Slot `n` of four. -/
abbrev slotR (n : ℕ) : Rect S4x1024x256 := Rect.unit (s := S4x1024x256) ![n % 4, 0, 0] S1x1024x256.size (inb_slot n)
/-- Columns `256 n …` of sixteen groups. -/
abbrev colsR (n : ℕ) : Rect S1024x4096 := Rect.unit (s := S1024x4096) ![0, 256 * (n % 16)] S1024x256.size (inb_cols n)
/-- The whole of a chunk. -/
abbrev fullR : Rect S2048x256 := Rect.unit (s := S2048x256) ![0, 0] S2048x256.size inb_S2048x256_S2048x256_0_0
/-- The rows of a chunk product which the `x` neighbour finishes. -/
abbrev otherR (c : Dev nD) : Rect S2048x256 := Rect.unit (s := S2048x256) (k0_off2 c) S1024x256.size (k0_off2_inb c)
/-- The rows of a chunk product which this device finishes. -/
abbrev mineR (c : Dev nD) : Rect S2048x256 := Rect.unit (s := S2048x256) (k0_off3 c) S1024x256.size (k0_off3_inb c)
/-- The number `n` of a chunk, as one of sixteen. -/
abbrev fin16 (n : ℕ) : Fin 16 := ⟨n % 16, Nat.mod_lt _ (by decide)⟩
/-- Chunk `n` of this device's half of the columns of `dy`. -/
abbrev dyR (c : Dev nD) (n : ℕ) : Rect S2048x8192 :=
  Rect.unit (s := S2048x8192) (k0_off1 c (BitVec.ofNat 32 (256 * (n % 16)))) S2048x256.size (k0_off1_inb c (fin16 n))
/-- Chunk `n` of this device's half of the result. -/
abbrev outR (c : Dev nD) (n : ℕ) : Rect S1024x8192 :=
  Rect.unit (s := S1024x8192) (k0_off4 c (BitVec.ofNat 32 (256 * (n % 16)))) S1024x256.size (k0_off4_inb c (fin16 n))
/-- Chunk `n` of the `y` neighbour's half of the result. -/
abbrev outYR (c : Dev nD) (n : ℕ) : Rect S1024x8192 :=
  Rect.unit (s := S1024x8192) (k0_off6 c (BitVec.ofNat 32 (256 * (n % 16)))) S1024x256.size (k0_off6_inb c (fin16 n))

/-! ## Views and semaphores -/

/-- Slab `i` of the argument `x`. -/
abbrev xSlab (i : ℕ) : Memref sig .tc .hbm S512x2048 .f32 := xIn.slice (slabR i) (fun _ => rfl)
/-- Chunk `n` of the argument `dy`. -/
abbrev dyCols (c : Dev nD) (n : ℕ) : Memref sig .tc .hbm S2048x256 .f32 := dyIn.slice (dyR c n) (fun _ => rfl)
/-- The buffer in which chunk `n` of `dy` lands. -/
abbrev dySt (n : ℕ) : Memref sig .tc .vmem S2048x256 .f32 := (dyB n).slice fullR (fun _ => rfl)
/-- The slot from which chunk `n` is sent along `x`. -/
abbrev sbS (n : ℕ) : Memref sig .tc .vmem S1024x256 .bf16 :=
  (sbM.slice (slotR n) (fun _ => rfl)).squeeze S1024x256 squeezes_S1x1024x256_S1024x256
/-- The slot from which chunk `n` is sent along `y`. -/
abbrev ybS (n : ℕ) : Memref sig .tc .vmem S1024x256 .bf16 :=
  (ybM.slice (slotR n) (fun _ => rfl)).squeeze S1024x256 squeezes_S1x1024x256_S1024x256
/-- The slot in which the `y` neighbour's chunk `n` is widened. -/
abbrev ytS (n : ℕ) : Memref sig .tc .vmem S1024x256 .f32 :=
  (ytM.slice (slotR n) (fun _ => rfl)).squeeze S1024x256 squeezes_S1x1024x256_S1024x256
/-- Where chunk `n` lands from the `x` neighbour. -/
abbrev rxS (n : ℕ) : Memref sig .tc .vmem S1024x256 .bf16 := rxM.slice (colsR n) (fun _ => rfl)
/-- Where chunk `n` lands from the `y` neighbour. -/
abbrev ryS (n : ℕ) : Memref sig .tc .vmem S1024x256 .bf16 := ryM.slice (colsR n) (fun _ => rfl)
/-- The rows of chunk `n`'s product that this device finishes. -/
abbrev pMine (c : Dev nD) (n : ℕ) : Memref sig .tc .vmem S1024x256 .f32 :=
  (pB n).slice (Rect.unit (s := S2048x256) (k0_off5 c) S1024x256.size (k0_off5_inb c)) (fun _ => rfl)
/-- Chunk `n` of this device's half of the result. -/
abbrev outS (c : Dev nD) (n : ℕ) : Memref sig .tc .hbm S1024x256 .f32 := outM.slice (outR c n) (fun _ => rfl)
/-- Chunk `n` of the other half of the result. -/
abbrev outYS (c : Dev nD) (n : ℕ) : Memref sig .tc .hbm S1024x256 .f32 := outM.slice (outYR c n) (fun _ => rfl)

/-- One cell of an array of two semaphores. -/
abbrev cell2 (a : DmaSems sig S2) (n : ℕ) : DmaSems sig S_ :=
  (a.slice (Rect.unit (s := S2) ![n % 2] S1.size (inb_s2 n))).squeeze S_ squeezes_S1_S_
/-- One cell of an array of four semaphores. -/
abbrev cell4 (a : DmaSems sig S4) (n : ℕ) : DmaSems sig S_ :=
  (a.slice (Rect.unit (s := S4) ![n % 4] S1.size (inb_s4 n))).squeeze S_ squeezes_S1_S_
/-- One cell of an array of sixteen semaphores. -/
abbrev cell16 (a : DmaSems sig S16) (n : ℕ) : DmaSems sig S_ :=
  (a.slice (Rect.unit (s := S16) ![n % 16] S1.size (inb_s16 n))).squeeze S_ squeezes_S1_S_

/-- The semaphore of slab `n`'s copy. -/
abbrev xSem (n : ℕ) := (cell2 cc0_scratch15 n).sem
/-- The semaphore of the load of chunk `n` of `dy`. -/
abbrev dySem (n : ℕ) := (cell2 cc0_scratch16 n).sem
/-- The semaphore of the store of chunk `n`. -/
abbrev stSem (n : ℕ) := (cell4 cc0_scratch17 n).sem
/-- The semaphore of the store of the `y` neighbour's chunk `n`. -/
abbrev ystSem (n : ℕ) := (cell4 cc0_scratch18 n).sem
/-- Raised here when chunk `n` has left along `x`. -/
abbrev sxSem (n : ℕ) := (cell16 cc0_scratch19 n).sem
/-- Raised here when chunk `n` has come along `x`. -/
abbrev rxSem (n : ℕ) := (cell16 cc0_scratch20 n).sem
/-- Raised here when chunk `n` has left along `y`. -/
abbrev sySem (n : ℕ) := (cell16 cc0_scratch21 n).sem
/-- Raised here when chunk `n` has come along `y`. -/
abbrev rySem (n : ℕ) := (cell16 cc0_scratch22 n).sem
/-- The barrier. -/
abbrev barSem : Sem sig := (SemArray.scalar (d := fun a => a.elim0) (sig.barrier 0 rfl)).sem

/-- The neighbour along `x`. -/
abbrev xPeer (c : Dev nD) : Dev nD := ⟨k0_dev3 c, k0_dev3_lt c⟩
/-- The neighbour along `y`. -/
abbrev yPeer (c : Dev nD) : Dev nD := ⟨k0_dev5 c, k0_dev5_lt c⟩

/-! ## What the machine asks of the views -/

/-- A slab buffer is whole words. -/
theorem we_xl (i : ℕ) : (xlB i).view.WordExact := by
  unfold xlB; split <;> exact (Memref.isWhole_whole _).wordExact

/-- A slot of bf16 elements is whole words. -/
theorem words_slot (n : ℕ) : (slotR n).WholeWords (EltTy.packing .bf16) := by
  have h : ∀ k : Fin 4, (slotR k.val).WholeWords (EltTy.packing .bf16) := by decide
  have := h ⟨n % 4, Nat.mod_lt _ (by decide)⟩
  simpa [slotR] using this

/-- The rows of a slot of bf16 elements come in packed pairs. -/
theorem packed_slot (n : ℕ) : (slotR n).PackedRows (EltTy.packing .bf16) := by
  have h : ∀ k : Fin 4, (slotR k.val).PackedRows (EltTy.packing .bf16) := by decide
  have := h ⟨n % 4, Nat.mod_lt _ (by decide)⟩
  simpa [slotR] using this

/-- A column block of bf16 elements is whole words. -/
theorem words_cols (n : ℕ) : (colsR n).WholeWords (EltTy.packing .bf16) := by
  have h : ∀ k : Fin 16, (colsR k.val).WholeWords (EltTy.packing .bf16) := by decide
  have := h ⟨n % 16, Nat.mod_lt _ (by decide)⟩
  simpa [colsR] using this

/-- The rows of a slab of bf16 elements come in packed pairs. -/
theorem packed_slab (n : ℕ) : (slabR n).PackedRows (EltTy.packing .bf16) := by
  have h : ∀ k : Fin 4, (slabR k.val).PackedRows (EltTy.packing .bf16) := by decide
  have := h ⟨n % 4, Nat.mod_lt _ (by decide)⟩
  simpa [slabR] using this

/-- What is sent along `x` is whole words. -/
theorem we_sb (n : ℕ) : (sbS n).view.WordExact :=
  ((Memref.isWhole_whole _).wordExact_slice rfl _ (words_slot n)).reshape _ _
/-- What is sent along `y` is whole words. -/
theorem we_yb (n : ℕ) : (ybS n).view.WordExact :=
  ((Memref.isWhole_whole _).wordExact_slice rfl _ (words_slot n)).reshape _ _
/-- Where a chunk lands from the `x` neighbour is whole words. -/
theorem we_rx (n : ℕ) : (rxS n).view.WordExact := (Memref.isWhole_whole _).wordExact_slice rfl _ (words_cols n)
/-- Where a chunk lands from the `y` neighbour is whole words. -/
theorem we_ry (n : ℕ) : (ryS n).view.WordExact := (Memref.isWhole_whole _).wordExact_slice rfl _ (words_cols n)

/-! ## The steps -/

/-- A statement of the body. -/
abbrev Code (F : FTy → Type) [FloatOps F] : Type → Type _ := Prog (TpuEff nD τ sig (Elt F) Λ₀ .tc)

/-- Start loading slab `i` of `x`. -/
def startX (i : ℕ) : Code F PUnit :=
  Prog.lift (.enqueueDma (xSlab i) (.here (xlB i)) (.dma (xSem i)) (View.wordExact_bits rfl) (we_xl i) ⟨Or.inl rfl, trivial⟩)

/-- Wait for slab `i` of `x`, round it into its rows of the bf16 copy, and start the slab after the next. -/
def slab (i : ℕ) : Code F PUnit := do
  Prog.lift (.waitDma2 (xSem i) (xSlab i) (xlB i) (View.wordExact_bits rfl) (we_xl i))
  let v ← Prog.lift (.load (xlB i) (Rect.unit (s := S512x2048) ![0, 0] S512x2048.size inb_S512x2048_S512x2048_0_0).toLoadRect (View.loadsAt_vmem h_S512x2048))
  let _ ← Prog.lift (.load xbM (slabR i).toLoadRect (View.loadsAt_vmem h_S512x2048))
  Prog.lift (.store xbM (slabR i) (k0_pay3 v) Finset.univ (View.stores_vmem h_S512x2048 ((Memref.isWhole_whole _).storeExact_slice rfl _ (packed_slab i)) (fun _ => rfl)) (.inl rfl))
  if i + 2 < 4 then startX (i + 2) else pure ⟨⟩

/-- Start loading chunk `n` of `dy`. -/
def startLoad (c : Dev nD) (n : ℕ) : Code F PUnit :=
  Prog.lift (.enqueueDma (dyCols c n) (.here (dySt n)) (.dma (dySem n)) (View.wordExact_bits rfl) (View.wordExact_bits rfl) ⟨Or.inl rfl, trivial⟩)

/-- Chunk `n` of `dy` has come: round it, and start the next. -/
def takeDy (c : Dev nD) (n : ℕ) : Code F PUnit := do
  Prog.lift (.waitDma2 (dySem n) (dyCols c n) (dySt n) (View.wordExact_bits rfl) (View.wordExact_bits rfl))
  let v ← Prog.lift (.load (dyB n) fullR.toLoadRect (View.loadsAt_vmem h_S2048x256))
  let _ ← Prog.lift (.load dybM fullR.toLoadRect (View.loadsAt_vmem h_S2048x256))
  Prog.lift (.store dybM fullR (k0_pay6 v) Finset.univ (View.stores_vmem h_S2048x256 ((Memref.isWhole_whole _).storeExact_slice rfl _ packedbf16_S2048x256_S2048x256_0_0) (fun _ => rfl)) (.inl rfl))
  if n + 1 < 16 then startLoad c (n + 1) else pure ⟨⟩

/-- Wait until the result's chunk `n` has left the product buffer. -/
def waitSt (c : Dev nD) (n : ℕ) : Code F PUnit :=
  Prog.lift (.waitDma2 (stSem n) (pMine c n) (outS c n) (View.wordExact_bits rfl) (View.wordExact_bits rfl))

/-- Wait until the neighbour's chunk `n` has been stored into the result. -/
def waitYst (c : Dev nD) (n : ℕ) : Code F PUnit :=
  Prog.lift (.waitDma2 (ystSem n) (ytS n) (outYS c n) ((View.wordExact_bits rfl).reshape _ _) (View.wordExact_bits rfl))

/-- Wait until chunk `n` has left for the `x` neighbour. -/
def waitSx (n : ℕ) : Code F PUnit := Prog.lift (.waitDma2 (sxSem n) (rxS n) (sbS n) (we_rx n) (we_sb n))

/-- Wait until chunk `n` has left for the `y` neighbour. -/
def waitSy (n : ℕ) : Code F PUnit := Prog.lift (.waitDma2 (sySem n) (ryS n) (ybS n) (we_ry n) (we_yb n))

/-- Chunk `n`'s product, and its neighbour's rows sent. -/
def product (c : Dev nD) (n : ℕ) : Code F PUnit := do
  let x ← Prog.lift (.load xbM (Rect.unit (s := S2048x2048) ![0, 0] S2048x2048.size inb_S2048x2048_S2048x2048_0_0).toLoadRect (View.loadsAt_vmem h_S2048x2048))
  let d ← Prog.lift (.load dybM fullR.toLoadRect (View.loadsAt_vmem h_S2048x256))
  let _ ← Prog.lift (.load (pB n) fullR.toLoadRect (View.loadsAt_vmem h_S2048x256))
  Prog.lift (.store (pB n) fullR (k0_pay7 x d) Finset.univ (View.stores_vmem_bits_univ h_S2048x256 rfl) (.inl rfl))
  if 4 ≤ n then waitSx (n - 4) else pure ⟨⟩
  let v ← Prog.lift (.load (pB n) (otherR c).toLoadRect (View.loadsAt_vmem h_S1024x256))
  let _ ← Prog.lift (.load sbM (slotR n).toLoadRect (View.loadsAt_vmem h_S1x1024x256))
  Prog.lift (.store sbM (slotR n) (k0_pay8 v) Finset.univ (View.stores_vmem h_S1x1024x256 ((Memref.isWhole_whole _).storeExact_slice rfl _ (packed_slot n)) (fun _ => rfl)) (.inl rfl))
  Prog.lift (.enqueueDma (sbS n) (.remote (Dev.tc (xPeer c)) (rxS n) (.dma (sxSem n))) (.dma (rxSem n)) (we_sb n) (we_rx n) ⟨⟨rfl, Or.inl rfl⟩, trivial⟩)

/-- The `x` neighbour's rows of chunk `n` have come: add them, send the sum to the `y` neighbour, and store it. -/
def finish (c : Dev nD) (n : ℕ) : Code F PUnit := do
  Prog.lift (.waitDma2 (rxSem n) (sbS n) (rxS n) (we_sb n) (we_rx n))
  let a ← Prog.lift (.load (pB n) (mineR c).toLoadRect (View.loadsAt_vmem h_S1024x256))
  let b ← Prog.lift (.load rxM (colsR n).toLoadRect (View.loadsAt_vmem h_S1024x256))
  let _ ← Prog.lift (.load (pB n) (mineR c).toLoadRect (View.loadsAt_vmem h_S1024x256))
  Prog.lift (.store (pB n) (mineR c) (k0_pay12 a b) Finset.univ (View.stores_vmem_bits_univ h_S1024x256 rfl) (.inl rfl))
  if 4 ≤ n then waitSy (n - 4) else pure ⟨⟩
  let v ← Prog.lift (.load (pB n) (mineR c).toLoadRect (View.loadsAt_vmem h_S1024x256))
  let _ ← Prog.lift (.load ybM (slotR n).toLoadRect (View.loadsAt_vmem h_S1x1024x256))
  Prog.lift (.store ybM (slotR n) (k0_pay13 v) Finset.univ (View.stores_vmem h_S1x1024x256 ((Memref.isWhole_whole _).storeExact_slice rfl _ (packed_slot n)) (fun _ => rfl)) (.inl rfl))
  Prog.lift (.enqueueDma (ybS n) (.remote (Dev.tc (yPeer c)) (ryS n) (.dma (sySem n))) (.dma (rySem n)) (we_yb n) (we_ry n) ⟨⟨rfl, Or.inl rfl⟩, trivial⟩)
  Prog.lift (.enqueueDma (pMine c n) (.here (outS c n)) (.dma (stSem n)) (View.wordExact_bits rfl) (View.wordExact_bits rfl) ⟨Or.inl rfl, trivial⟩)

/-- The `y` neighbour's chunk `n` has come: widen it and store it. -/
def service (c : Dev nD) (n : ℕ) : Code F PUnit := do
  Prog.lift (.waitDma2 (rySem n) (ybS n) (ryS n) (we_yb n) (we_ry n))
  if 4 ≤ n then waitYst c (n - 4) else pure ⟨⟩
  let v ← Prog.lift (.load ryM (colsR n).toLoadRect (View.loadsAt_vmem h_S1024x256))
  let _ ← Prog.lift (.load ytM (slotR n).toLoadRect (View.loadsAt_vmem h_S1x1024x256))
  Prog.lift (.store ytM (slotR n) (k0_pay26 v) Finset.univ (View.stores_vmem_bits_univ h_S1x1024x256 rfl) (.inl rfl))
  Prog.lift (.enqueueDma (ytS n) (.here (outYS c n)) (.dma (ystSem n)) ((View.wordExact_bits rfl).reshape _ _) (View.wordExact_bits rfl) ⟨Or.inl rfl, trivial⟩)

/-- One turn of the loop. -/
def chunk (c : Dev nD) (n : ℕ) : Code F PUnit := do
  takeDy c n
  if 4 ≤ n then waitSt c (n - 4) else pure ⟨⟩
  product c n
  if 1 ≤ n then finish c (n - 1) else pure ⟨⟩
  if 3 ≤ n then service c (n - 3) else pure ⟨⟩

/-- `k` turns from turn `n` on. -/
def loop (f : ℕ → Code F PUnit) : ℕ → ℕ → Code F PUnit
  | 0, _ => pure ⟨⟩
  | k + 1, n => do
    f n
    loop f k (n + 1)

/-- The last waits of chunk `n`. -/
def drain (c : Dev nD) (n : ℕ) : Code F PUnit := do
  waitSx n
  waitSy n
  waitSt c n
  waitYst c n

/-- The handshake with the two neighbours. -/
def handshake (c : Dev nD) : Code F PUnit := do
  semSignalWord (xPeer c) barSem 1#32
  semSignalWord (yPeer c) barSem 1#32
  semWaitWord barSem 2#32

/-- The body on device `c`. -/
def bodyOn (c : Dev nD) : Code F PUnit := do
  startLoad c 0
  startX 0
  startX 1
  loop slab 4 0
  handshake c
  loop (chunk c) 16 0
  finish c 15
  loop (service c) 3 13
  loop (drain c) 4 12

/-- The body: read the device's number, then run. -/
def body : Code F PUnit := do
  let c ← Prog.lift .deviceId
  bodyOn c

/-- The printed body is the body written by chunks. -/
theorem bodyAt0_eq (t : Fin cfg0.N) : bodyAt0 (F := F) t = body := by
  chain_rfl

end Cert.KernelIdeal.Flow

end
-- ==== Proof.Steps.lean ====
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

/-! # Rules of one statement each

Every buffer is held as `owns c m q X`: the elements of the memref `m` on device `c`, at a share, and
what is read through it. The rules below are the library's, in that form: a load reads, a store
replaces, a local copy is issued and waited for. -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The algebra -/

/-- The rounds' ghost state: duties are named by a `Bool`. -/
abbrev UB : Type := URounds (GSem nD τ sig) Bool
/-- The launch's part, the rounds' part, and the counters of the local copies. -/
abbrev UU : Type := UR sig nD τ × (UB × Counters)

local notation "𝕄" => MT nD τ sig Unit (Elt F) ℕ UU ℕ

/-- The pipeline's ghost component. -/
abbrev EP : Emb (UR sig nD τ) (MT nD τ sig Unit (Elt F) ℕ UU ℕ) := embL
/-- The rounds' ghost component. -/
abbrev ER : Emb UB (MT nD τ sig Unit (Elt F) ℕ UU ℕ) := (Emb.inl : Emb UB (UB × Counters)).trans embR
/-- The counters' ghost component. -/
abbrev EC : UEmb Counters (MT nD τ sig Unit (Elt F) ℕ UU ℕ) := countersEmb

/-- No loop needs a variant. -/
abbrev 𝒱₀ : Variants := Variants.none

/-- The weakest precondition of a piece of the body on device `c`. -/
abbrev wpc (c : Dev nD) {α : Type} (p : Code F α) (Q : α → sProp 𝕄) : sProp 𝕄 :=
  wp frame (wpE (defs₀ (F := F)) 𝒱₀ (c : Thread nD τ) none) Set.univ p Q

/-- Device `c` owns the elements of `m`, holding anything. -/
def anyAt (c : Dev nD) {sp : Space} {s : Shape} {e : EltTy} (m : Memref sig .tc sp s e) : sProp 𝕄 :=
  iprop(∃ X, owns (c : Thread nD τ) m fullShare X)

instance anyAt_storable (c : Dev nD) {sp : Space} {s : Shape} {e : EltTy} (m : Memref sig .tc sp s e) :
    BI.Storable (upEmb : UEmb _ 𝕄) (anyAt (F := F) c m) := by unfold anyAt; infer_instance

/-- What the device owes, the waits made so far left open. -/
def owesAny (c : Dev nD) (O : CellTallies nD τ sig Unit) : sProp 𝕄 := iprop(∃ W, owes (c : Thread nD τ) O W)

section Rules

variable (c : Dev nD) {sp sp' : Space} {s s' : Shape} {e e' : EltTy} {α : Type}

/-- Contents that are known are some contents. -/
theorem anyAt_intro {m : Memref sig .tc sp s e} (X : s.Idx → Elt F e) :
    (owns (c : Thread nD τ) m fullShare X : sProp 𝕄) ⊢ anyAt c m := by
  unfold anyAt; iintro H; iexists X; iexact H

/-- A load through a rectangle held reads what is held. -/
theorem wp_ld {cs : CoreSpace} {m : Memref sig .tc cs s e} {r : Rect s} (hr : ∀ a, r.stride a = 1)
    {hl : m.view.LoadsAt r.toLoadRect} {k : (r.shape.Idx → Elt F e) → Code F α} {Q : α → sProp 𝕄}
    {q : PosShare TreeShare} {X : r.shape.Idx → Elt F e} :
    (owns (c : Thread nD τ) (m.slice r hr) q X)
      ⊢ iprop((owns (c : Thread nD τ) (m.slice r hr) q X -∗ wpc c (k X) Q) -∗ wpc c (.op (.load m r.toLoadRect hl) k) Q) := by
  iintro H Hk
  unfold owns
  icases H with ⟨%f, %hf, H⟩
  iapply (wp_load_rect 𝒱₀ (c : Thread nD τ) none Set.univ (m := m) (r := r) (S := (m.slice r hr).view.set) (q := q) (f := f) (le_refl _)) $$ H
  iintro H
  rw [show (m.access r).read (Elt F) f = X from hf]
  iapply Hk
  iexists f
  isplitr; · ipureintro; exact hf
  iexact H

/-- A store through a rectangle held replaces what is held. -/
theorem wp_stv {cs : CoreSpace} {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Code F α} {Q : α → sProp 𝕄} {X : r.shape.Idx → Elt F e} :
    (owns (c : Thread nD τ) (m.slice r hr) fullShare X)
      ⊢ iprop((owns (c : Thread nD τ) (m.slice r hr) fullShare w -∗ wpc c (k ⟨⟩) Q) -∗ wpc c (.op (.store m r w Finset.univ hx hm) k) Q) := by
  iintro H Hk
  unfold owns
  icases H with ⟨%f, %hf, H⟩
  iapply (wp_store 𝒱₀ (c : Thread nD τ) none Set.univ (m := m) (r := r) (Mk := Finset.univ) (S := (m.slice r hr).view.set) (f := f) (le_refl _)) $$ H
  iintro H
  iapply Hk
  iexists ((m.access r).write (Elt F) f w Finset.univ)
  isplitr; · ipureintro; exact View.read_write_univ _ _
  iexact H

/-- The credit a copy into `m` raises its semaphore by. -/
abbrev credit (m : Memref sig .tc sp s e) : ℕ := m.view.dmaCredit

/-- A local copy is issued: the source lent, the destination given, the semaphore at zero. -/
theorem wp_copy_local {src : Memref sig .tc sp s e} {dst : Memref sig .tc sp' s e} {sm : DmaSem sig}
    {hsrc : src.view.WordExact} {hdst : dst.view.WordExact} {hsem : DmaTarget.Typed (nD := nD) sp (.dma sm) (DmaTarget.here (p := .tc) dst)}
    {k : PUnit → Code F α} {Q : α → sProp 𝕄} (hs : 0 < s.numel) {X Y : s.Idx → Elt F e} :
    iprop(owns (c : Thread nD τ) src fullShare X ∗ owns (c : Thread nD τ) dst fullShare Y ∗ semVal ((c : Thread nD τ), .dma sm) 0)
      ⊢ iprop((Transfers.Flight EC (c : Thread nD τ) (.dma sm) () (credit dst)
                  iprop(owns (c : Thread nD τ) dst fullShare X ∗ owns (c : Thread nD τ) src fullShare X) -∗ wpc c (k ⟨⟩) Q)
          -∗ wpc c (.op (.enqueueDma src (.here dst) (.dma sm) hsrc hdst hsem) k) Q) := by
  iintro ⟨Hs, Hd, Hv⟩ Hk
  unfold owns
  icases Hs with ⟨%fs, %hfs, Hs⟩
  icases Hd with ⟨%fd, %hfd, Hd⟩
  iapply (Transfers.wp_dmaLocal EC 𝒱₀ (c : Thread nD τ) none (src := src) (dst := dst) (via := .same) (q := fullShare) (fs := fs)
    (Sd := dst.view.set) (fd := fd) () (credit dst) rfl (View.dmaCredit_pos _ hs) (le_refl _)) $$ [Hs Hd Hv]
  · isplitl [Hs]; · iexact Hs
    isplitl [Hd] <;> iassumption
  iintro HF
  iapply Hk
  iapply (Transfers.Flight_mono EC (c : Thread nD τ) ?_) $$ HF
  iintro ⟨Hd, Hs⟩
  isplitl [Hd]
  · iexists (dst.view.write (Elt F) fd (src.view.read (Elt F) fs) Finset.univ)
    isplitr
    · ipureintro; exact (View.read_write_univ _ _).trans hfs
    iexact Hd
  · iexists fs
    isplitr; · ipureintro; exact hfs
    iexact Hs

/-- A local copy is waited for. -/
theorem wp_wait_local {srcw : Memref sig .tc sp' s' e'} {dstw : Memref sig .tc sp s e} {sm : DmaSem sig}
    {hsrc : srcw.view.WordExact} {hdst : dstw.view.WordExact} {k : PUnit → Code F α} {Q : α → sProp 𝕄}
    {N : ℕ} (hN : credit dstw = N) {D : sProp 𝕄} {O : CellTallies nD τ sig Unit} :
    iprop(Transfers.Flight EC (c : Thread nD τ) (.dma sm) () N D ∗ owesAny c O ∗ MayWait (c : Thread nD τ) (.dma sm) () O)
      ⊢ iprop((iprop(D ∗ semVal ((c : Thread nD τ), .dma sm) 0 ∗ owesAny c O) -∗ wpc c (k ⟨⟩) Q)
          -∗ wpc c (.op (.waitDma2 sm srcw dstw hsrc hdst) k) Q) := by
  iintro ⟨HF, HO, Hw⟩ Hk
  unfold owesAny
  icases HO with ⟨%W, HO⟩
  iapply (Transfers.wp_waitLocalO EC 𝒱₀ (c : Thread nD τ) none () hN (O := O) (W := W)) $$ [HF HO Hw]
  · isplitl [HF]; · iexact HF
    isplitl [HO] <;> iassumption
  iintro ⟨HD, Hv, HO⟩
  iapply Hk
  isplitl [HD]; · iexact HD
  isplitl [Hv]; · iexact Hv
  iexists _; iexact HO

/-! ### Other spellings of one buffer -/

/-- What is read through a memref with its axis of size one dropped. -/
def sq (h : s.Squeezes s') (X : s.Idx → Elt F e) : s'.Idx → Elt F e := fun j => X (Shape.reshapeEquiv h.numel_eq j)

/-- Dropping an axis of size one changes neither the elements nor what they hold. -/
theorem owns_squeeze {m : Memref sig .tc sp s e} (h : s.Squeezes s') {q : PosShare TreeShare} {X : s.Idx → Elt F e} :
    (owns (c : Thread nD τ) m q X : sProp 𝕄) ⊢ owns (c : Thread nD τ) (m.squeeze s' h) q (sq h X) := by
  unfold owns
  iintro ⟨%f, %hf, H⟩
  iexists f
  isplitr
  · ipureintro; subst hf; rfl
  have hset : (m.squeeze s' h).view.set = m.view.set := View.set_reshape _ _
  rw [hset]; iexact H

/-- A memref with its unit axes dropped, at some contents, gives the memref itself at some contents. -/
theorem any_unsqueeze {m : Memref sig .tc sp s e} (h : s.Squeezes s') :
    (anyAt c (m.squeeze s' h) : sProp 𝕄) ⊢ anyAt c m := by
  unfold anyAt owns
  iintro ⟨%X, %f, %hf, H⟩
  iexists (m.view.read (Elt F) f)
  iexists f
  isplitr
  · ipureintro; rfl
  have hset : (m.squeeze s' h).view.set = m.view.set := View.set_reshape _ _
  rw [hset]; iexact H

/-- The rectangle of all of a memref. -/
theorem owns_full {m : Memref sig .tc sp s e} {r : Rect s} (hr : ∀ a, r.stride a = 1) (hall : r.set = Finset.univ)
    {q : PosShare TreeShare} {X : s.Idx → Elt F e} :
    (owns (c : Thread nD τ) m q X : sProp 𝕄) ⊢ owns (c : Thread nD τ) (m.slice r hr) q (fun j => X (r.emb j)) := by
  have h := owns_rects (Ix := Unit) (Name := ℕ) (U := UU) (Lvl := ℕ) (c : Thread nD τ) m q (T := Unit) (fun _ => r) (fun _ => hr)
    (fun t t' h => absurd (Subsingleton.elim t t') h) (by simpa using hall) X
  refine h.trans (Entails.of_eq ?_)
  rw [show (Finset.univ : Finset Unit) = {()} from rfl, bigSep_singleton]

/-- A rectangle that holds every element is the whole. -/
theorem full_owns {m : Memref sig .tc sp s e} {r : Rect s} (hr : ∀ a, r.stride a = 1) (hall : r.set = Finset.univ)
    {q : PosShare TreeShare} {X : s.Idx → Elt F e} :
    (owns (c : Thread nD τ) (m.slice r hr) q (fun j => X (r.emb j)) : sProp 𝕄) ⊢ owns (c : Thread nD τ) m q X := by
  have h := owns_of_rects (Ix := Unit) (Name := ℕ) (U := UU) (Lvl := ℕ) (c : Thread nD τ) m q (T := Unit) (fun _ => r) (fun _ => hr)
    (fun t t' h => absurd (Subsingleton.elim t t') h) (by simpa using hall) X
  refine Entails.trans (Entails.of_eq ?_) h
  rw [show (Finset.univ : Finset Unit) = {()} from rfl, bigSep_singleton]

/-- A part of a memref taken out, to be put back as it was. -/
theorem owns_lend {m : Memref sig .tc sp s e} (r : Rect s) (hr : ∀ a, r.stride a = 1) {q : PosShare TreeShare} {X : s.Idx → Elt F e} :
    (owns (c : Thread nD τ) m q X : sProp 𝕄)
      ⊢ iprop(owns (c : Thread nD τ) (m.slice r hr) q (fun j => X (r.emb j))
          ∗ (owns (c : Thread nD τ) (m.slice r hr) q (fun j => X (r.emb j)) -∗ owns (c : Thread nD τ) m q X)) := by
  iintro H
  ihave H' := (show owns (c : Thread nD τ) m q X ⊢ iprop(∃ g, ⌜m.view.read (Elt F) g = X⌝ ∗ m.view.loc (c : Thread nD τ) ↦[m.view.set]{q} g : sProp 𝕄) from .rfl) $$ H
  icases H' with ⟨%g, %hg, H⟩
  subst hg
  rw [owns_slice_read (c : Thread nD τ) m q r hr g]
  ihave H := (pointsTo_split_subset (View.set_slice_subset m.view r)).1 $$ H
  icases H with ⟨H1, H2⟩
  isplitl [H1]; · iexact H1
  iintro H1
  unfold owns
  iexists g
  isplitr; · ipureintro; rfl
  iapply (pointsTo_split_subset (View.set_slice_subset m.view r)).2
  isplitl [H1] <;> iassumption

end Rules

/-! ## Families along the chunks -/

section Fam

/-- The family `P a`, `P (a+1)`, …, `P (b-1)`. -/
def fam (P : ℕ → sProp 𝕄) (a b : ℕ) : sProp 𝕄 := bigSep (Finset.Ico a b) P

/-- The first member of a family can be taken out. -/
theorem fam_pop (P : ℕ → sProp 𝕄) {a b : ℕ} (h : a < b) : fam P a b ⊢ iprop(P a ∗ fam P (a + 1) b) := by
  unfold fam
  rw [show Finset.Ico a b = insert a (Finset.Ico (a + 1) b) by ext i; simp only [Finset.mem_insert, Finset.mem_Ico]; omega,
    bigSep_insert (by simp)]
  exact .rfl

/-- A member can be put into a family after the last. -/
theorem fam_push (P : ℕ → sProp 𝕄) {a b : ℕ} (h : a ≤ b) : iprop(fam P a b ∗ P b) ⊢ fam P a (b + 1) := by
  unfold fam
  rw [show Finset.Ico a (b + 1) = insert b (Finset.Ico a b) by ext i; simp only [Finset.mem_insert, Finset.mem_Ico]; omega,
    bigSep_insert (by simp)]
  exact sep_comm.1

/-- An empty family is nothing. -/
theorem fam_nil (P : ℕ → sProp 𝕄) (a : ℕ) : (emp : sProp 𝕄) ⊢ fam P a a := by
  unfold fam; rw [Finset.Ico_self, bigSep_empty]; exact .rfl

/-- A family over the first `n` numbers, as one over `Fin n`. -/
theorem fam_fin (P : ℕ → sProp 𝕄) (n : ℕ) : fam P 0 n = bigSep Finset.univ fun i : Fin n => P i.val := by
  unfold fam
  rw [show Finset.Ico 0 n = (Finset.univ : Finset (Fin n)).map Fin.valEmbedding by rw [Fin.map_valEmbedding_univ]; ext; simp, bigSep_map]
  rfl

/-- Families are monotone, member by member. -/
theorem fam_mono {P P' : ℕ → sProp 𝕄} (a b : ℕ) (h : ∀ i, P i ⊢ P' i) : fam P a b ⊢ fam P' a b :=
  bigSep_mono fun i _ => h i

end Fam

end Cert.KernelIdeal.Flow

end
-- ==== Proof.Protocol.lean ====
module

public import proofs.«01_k».proof.Proof.Steps

@[expose] public section

set_option maxRecDepth 16384

/-! # The protocol between the devices

Every device has, besides its barrier, four families of sixteen semaphores, one for each chunk: the
chunk has left for the `x` neighbour, has come from it, has left for the `y` neighbour, has come from
it. Each is used once. A chunk that comes brings its landing columns with their contents; one that
has left gives its staging slot back. Over the barrier a device hands its landing buffers to the
neighbour that writes them. -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The neighbours -/

/-- The neighbour's neighbour along `x` is the device itself. -/
theorem xPeer_xPeer (c : Dev nD) : xPeer (xPeer c) = c := by revert c; decide
/-- The neighbour's neighbour along `y` is the device itself. -/
theorem yPeer_yPeer (c : Dev nD) : yPeer (yPeer c) = c := by revert c; decide
/-- The two neighbours are different devices. -/
theorem xPeer_ne_yPeer (c : Dev nD) : xPeer c ≠ yPeer c := by revert c; decide

/-! ## What the buffers hold -/

section Values

variable (X0 : Dev nD → Vec F S2048x2048 .f32) (D0 : Dev nD → Vec F S2048x8192 .f32)

/-- The argument `x` rounded. -/
def XB (c : Dev nD) : Vec F S2048x2048 .bf16 := truncf .bf16 (X0 c) bitsLt_bf16_f32
/-- Slab `i` of `x`. -/
def XS (c : Dev nD) (i : ℕ) : Vec F S512x2048 .f32 := fun j => X0 c ((slabR i).emb j)
/-- Chunk `n` of `dy`. -/
def DY (c : Dev nD) (n : ℕ) : Vec F S2048x256 .f32 := fun j => D0 c ((dyR c n).emb j)
/-- Chunk `n`'s product of this device's blocks, all 2048 rows. -/
def P (c : Dev nD) (n : ℕ) : Vec F S2048x256 .f32 := k0_pay7 (XB X0 c) (k0_pay6 (DY D0 c n))
/-- The rows of it for the `x` neighbour, as staged. -/
def SBv (c : Dev nD) (n : ℕ) : Vec F S1x1024x256 .bf16 := k0_pay8 fun j => P X0 D0 c n ((otherR c).emb j)
/-- A staged chunk as the copy reads it. -/
abbrev unstage {e : EltTy} (v : Vec F S1x1024x256 e) : Vec F S1024x256 e := sq (s := S1x1024x256) (s' := S1024x256) squeezes_S1x1024x256_S1024x256 v
/-- What comes from the `x` neighbour. -/
def RX (c : Dev nD) (n : ℕ) : Vec F S1024x256 .bf16 := unstage (SBv X0 D0 (xPeer c) n)
/-- The rows of the product this device finishes. -/
def PM (c : Dev nD) (n : ℕ) : Vec F S1024x256 .f32 := fun j => P X0 D0 c n ((mineR c).emb j)
/-- The finished chunk. -/
def QF (c : Dev nD) (n : ℕ) : Vec F S1024x256 .f32 := k0_pay12 (PM X0 D0 c n) (RX X0 D0 c n)
/-- What comes from the `y` neighbour. -/
def RY (c : Dev nD) (n : ℕ) : Vec F S1024x256 .bf16 := unstage (k0_pay13 (QF X0 D0 (yPeer c) n))
/-- The `y` neighbour's chunk as stored into the result. -/
def OY (c : Dev nD) (n : ℕ) : Vec F S1024x256 .f32 := unstage (k0_pay26 (RY X0 D0 c n))

end Values

/-! ## The cells -/

/-- The shared semaphores of a device: its barrier (`none`), and for each chunk the four of the two exchanges. -/
abbrev CI : Type := Option (Fin 4 × Fin 16)

/-- Where they are. -/
def csem : CI → SemLoc sig
  | none => .reg barSem
  | some (0, k) => .dma (sxSem k.val)
  | some (1, k) => .dma (rxSem k.val)
  | some (2, k) => .dma (sySem k.val)
  | some (3, k) => .dma (rySem k.val)

/-- Different members of the enumeration are different semaphores. -/
theorem csem_injective : Function.Injective csem := by decide +kernel

/-- Which shared semaphore a semaphore is, if any. -/
def which (sm : SemLoc sig) : Option CI := open Classical in if h : ∃ i, csem i = sm then some h.choose else none

/-- A shared semaphore is found by its number. -/
theorem which_csem (i : CI) : which (csem i) = some i := by
  have h : ∃ j, csem j = csem i := ⟨i, rfl⟩
  unfold which
  rw [dif_pos h]
  exact congrArg some (csem_injective h.choose_spec)

/-- Any other semaphore is not found. -/
theorem which_none {sm : SemLoc sig} (h : ∀ i, csem i ≠ sm) : which sm = none := by
  unfold which; exact dif_neg fun ⟨i, hi⟩ => h i hi

/-- A shared semaphore of a device. -/
abbrev kcell (p : Dev nD × CI) : GSem nD τ sig := ((p.1 : Thread nD τ), csem p.2)

/-- Different devices or numbers give different semaphores. -/
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The four families and the barrier, as positions in the enumeration. -/
abbrev cBar (c : Dev nD) : GSem nD τ sig := ((c : Thread nD τ), .reg barSem)
/-- The semaphore raised when chunk `n` has left along `x`. -/
abbrev cSx (c : Dev nD) (n : ℕ) : GSem nD τ sig := ((c : Thread nD τ), .dma (sxSem n))
/-- The semaphore raised when chunk `n` has come along `x`. -/
abbrev cRx (c : Dev nD) (n : ℕ) : GSem nD τ sig := ((c : Thread nD τ), .dma (rxSem n))
/-- The semaphore raised when chunk `n` has left along `y`. -/
abbrev cSy (c : Dev nD) (n : ℕ) : GSem nD τ sig := ((c : Thread nD τ), .dma (sySem n))
/-- The semaphore raised when chunk `n` has come along `y`. -/
abbrev cRy (c : Dev nD) (n : ℕ) : GSem nD τ sig := ((c : Thread nD τ), .dma (rySem n))

/-- What a copy of a chunk raises its semaphores by. -/
def N : ℕ := credit (rxS 0)
/-- A copy raises by something. -/
theorem N_pos : 0 < N := View.dmaCredit_pos _ (by decide)
/-- A copy of a chunk out of an `x` staging slot raises by a chunk's credit. -/
theorem credit_sb (n : ℕ) : credit (sbS n) = N := rfl
/-- A copy of a chunk out of a `y` staging slot raises by a chunk's credit. -/
theorem credit_yb (n : ℕ) : credit (ybS n) = N := rfl
/-- A copy of a chunk into the `x` landing columns raises by a chunk's credit. -/
theorem credit_rx (n : ℕ) : credit (rxS n) = N := rfl
/-- A copy of a chunk into the `y` landing columns raises by a chunk's credit. -/
theorem credit_ry (n : ℕ) : credit (ryS n) = N := rfl

/-! ## The schedule -/

section Schedule

variable (X0 : Dev nD → Vec F S2048x2048 .f32) (D0 : Dev nD → Vec F S2048x8192 .f32)

/-- What device `c` receives with a unit of its semaphore `i`. -/
def pay (c : Dev nD) : CI → Bool → sProp 𝕄
  | none, false => fam (fun n => anyAt (xPeer c) (rxS n)) 0 16
  | none, true => fam (fun n => anyAt (yPeer c) (ryS n)) 0 16
  | some (0, k), _ => anyAt c (sbS k.val)
  | some (1, k), _ => owns (c : Thread nD τ) (rxS k.val) fullShare (RX X0 D0 c k.val)
  | some (2, k), _ => anyAt c (ybS k.val)
  | some (3, k), _ => owns (c : Thread nD τ) (ryS k.val) fullShare (RY X0 D0 c k.val)

instance fam_storable (P : ℕ → sProp 𝕄) (a b : ℕ) [∀ i, BI.Storable (upEmb : UEmb _ 𝕄) (P i)] :
    BI.Storable (upEmb : UEmb _ 𝕄) (fam (F := F) P a b) := by unfold fam; infer_instance

instance pay_storable (c : Dev nD) (i : CI) (d : Bool) : BI.Storable (upEmb : UEmb _ 𝕄) (pay X0 D0 c i d) := by
  rcases i with _ | ⟨j, k⟩
  · cases d <;> (unfold pay; infer_instance)
  · fin_cases j <;> (show BI.Storable (upEmb : UEmb _ 𝕄) (pay X0 D0 c (some (_, k)) d); unfold pay; infer_instance)

/-- One round: the barrier has two duties of one unit, each other cell one of a chunk's credit. -/
def Rd : Rounds.Schedule (GSem nD τ sig) Bool 𝕄 where
  duties g r := if r = 0 ∧ g.1.2 = .tc then (match which g.2 with | none => ∅ | some none => Finset.univ | some (some _) => {false}) else ∅
  unitless _ := False
  amount g _ _ := match which g.2 with | some (some _) => N | _ => 1
  payload g _ d := match which g.2 with | some i => pay X0 D0 g.1.1 i d | none => iprop(emp)
  amount_pos g _ _ _ := by
    split
    · exact N_pos
    · exact Nat.one_pos

instance Rd_storable (g : GSem nD τ sig) (r : ℕ) (d : Bool) : BI.Storable (upEmb : UEmb _ 𝕄) ((Rd X0 D0).payload g r d) := by
  show BI.Storable (upEmb : UEmb _ 𝕄) (match which g.2 with | some i => pay X0 D0 g.1.1 i d | none => iprop(emp))
  split <;> infer_instance

variable (c : Dev nD)

/-- The barrier has both its duties. -/
theorem duties_bar : (Rd X0 D0).duties (kcell (c, none)) 0 = Finset.univ := by
  dsimp only [Rd]; rw [if_pos ⟨rfl, rfl⟩, which_csem]
/-- A chunk's semaphore has one duty. -/
theorem duties_xfer (p : Fin 4 × Fin 16) : (Rd X0 D0).duties (kcell (c, some p)) 0 = {false} := by
  dsimp only [Rd]; rw [if_pos ⟨rfl, rfl⟩, which_csem]
/-- There is nothing after the first round. -/
theorem duties_later (g : GSem nD τ sig) : ∀ r, 1 ≤ r → (Rd X0 D0).duties g r = ∅ := fun r hr => by
  dsimp only [Rd]; exact if_neg fun h => by omega
/-- A unit of the barrier is one. -/
theorem amount_bar (d : Bool) : (Rd X0 D0).amount (kcell (c, none)) 0 d = 1 := by dsimp only [Rd]; rw [which_csem]
/-- A chunk's semaphore is raised by a chunk's credit. -/
theorem amount_xfer (p : Fin 4 × Fin 16) (d : Bool) : (Rd X0 D0).amount (kcell (c, some p)) 0 d = N := by dsimp only [Rd]; rw [which_csem]
/-- What a duty hands over, by the semaphore's number. -/
theorem payload_eq (i : CI) (d : Bool) : (Rd X0 D0).payload (kcell (c, i)) 0 d = pay X0 D0 c i d := by dsimp only [Rd]; rw [which_csem]

/-- The barrier expects two units. -/
theorem expect_bar : (Rd X0 D0).expect (kcell (c, none)) 0 = 2 := by
  unfold Schedule.expect Schedule.amountOf
  rw [duties_bar, Finset.sum_congr rfl fun d _ => amount_bar X0 D0 c d, Finset.sum_const, Finset.card_univ, Fintype.card_bool, smul_eq_mul]
/-- A chunk's semaphore expects one chunk's credit. -/
theorem expect_xfer (p : Fin 4 × Fin 16) : (Rd X0 D0).expect (kcell (c, some p)) 0 = N := by
  unfold Schedule.expect Schedule.amountOf; rw [duties_xfer, Finset.sum_singleton, amount_xfer]

/-- A wait for all of the barrier receives both neighbours' landing buffers. -/
theorem rest_bar : bigSep ((Rd X0 D0).duties (kcell (c, none)) 0 \ ∅) (fun d => (Rd X0 D0).payload (kcell (c, none)) 0 d)
    = iprop(pay X0 D0 c none false ∗ pay X0 D0 c none true) := by
  rw [Finset.sdiff_empty, duties_bar, bigSep_univ_eq_bigSepL [false, true] (by decide) (by decide), bigSepL_cons_cons, bigSepL_singleton,
    payload_eq, payload_eq]
  rfl
/-- A wait for a chunk's semaphore receives what its one duty hands over. -/
theorem rest_xfer (p : Fin 4 × Fin 16) : bigSep ((Rd X0 D0).duties (kcell (c, some p)) 0 \ ∅) (fun d => (Rd X0 D0).payload (kcell (c, some p)) 0 d)
    = pay X0 D0 c (some p) false := by
  rw [Finset.sdiff_empty, duties_xfer, bigSep_singleton, payload_eq]

end Schedule

/-! ## What is owed, and the levels -/

/-- What device `c` still owes when it has sent `n` chunks along `x` and `f` along `y`. -/
def owed (c : Dev nD) (n f : ℕ) : CellTallies nD τ sig Unit :=
  (∑ i ∈ Finset.Ico n 16, tallyAt (cRx (xPeer c) i) () N) + ∑ i ∈ Finset.Ico f 16, tallyAt (cRy (yPeer c) i) () N

/-- Sending chunk `n` along `x` pays one of the debts. -/
theorem owed_x (c : Dev nD) {n f : ℕ} (h : n < 16) : owed c n f = owed c (n + 1) f + tallyAt (cRx (xPeer c) n) () N := by
  unfold owed
  rw [show Finset.Ico n 16 = insert n (Finset.Ico (n + 1) 16) by ext i; simp only [Finset.mem_insert, Finset.mem_Ico]; omega,
    Finset.sum_insert (by simp), add_comm (tallyAt (cRx (xPeer c) n) () N), add_right_comm]

/-- Sending chunk `f` along `y` pays one of the debts. -/
theorem owed_y (c : Dev nD) {n f : ℕ} (h : f < 16) : owed c n f = owed c n (f + 1) + tallyAt (cRy (yPeer c) f) () N := by
  unfold owed
  rw [show Finset.Ico f 16 = insert f (Finset.Ico (f + 1) 16) by ext i; simp only [Finset.mem_insert, Finset.mem_Ico]; omega,
    Finset.sum_insert (by simp), add_comm (tallyAt (cRy (yPeer c) f) () N), ← add_assoc]

/-- When all is sent nothing is owed. -/
theorem owed_none (c : Dev nD) : owed c 16 16 = 0 := by unfold owed; simp

/-- What is owed is an arrival of a chunk not yet sent. -/
theorem owed_pos {c : Dev nD} {n f : ℕ} {g : GSem nD τ sig} {u : Unit} (h : 0 < owed c n f g u) :
    (∃ i, n ≤ i ∧ i < 16 ∧ g = cRx (xPeer c) i) ∨ ∃ i, f ≤ i ∧ i < 16 ∧ g = cRy (yPeer c) i := by
  unfold owed at h
  rw [Pi.add_apply, Finsupp.add_apply, Finset.sum_apply, Finset.sum_apply, Finsupp.finset_sum_apply, Finsupp.finset_sum_apply] at h
  by_contra hn
  rw [not_or] at hn
  rw [Finset.sum_eq_zero, Finset.sum_eq_zero] at h
  · exact Nat.lt_irrefl 0 h
  · intro i hi
    rw [Finset.mem_Ico] at hi
    rw [tallyAt_apply]
    exact if_neg fun e => hn.2 ⟨i, hi.1, hi.2, e.1⟩
  · intro i hi
    rw [Finset.mem_Ico] at hi
    rw [tallyAt_apply]
    exact if_neg fun e => hn.1 ⟨i, hi.1, hi.2, e.1⟩

/-- What it owes at launch: also a unit to each neighbour's barrier. -/
def O₀ (c : Dev nD) : CellTallies nD τ sig Unit := owed c 0 0 + tallyAt (cBar (yPeer c)) () 1 + tallyAt (cBar (xPeer c)) () 1

/-- Every semaphore of the core has a level. -/
def L (g : GSem nD τ sig) : Finset Unit := if g.1.2 = .tc then {()} else ∅

/-- The barrier first; then a chunk's arrival along `x`, and along `y`, chunk by chunk. -/
def lv (g : GSem nD τ sig) (_ : Unit) : ℕ :=
  match which g.2 with
  | some none => 1
  | some (some (1, k)) => 2 + 2 * k.val
  | some (some (3, k)) => 3 + 2 * k.val
  | _ => 0

/-- A semaphore that is not of the core has no level. -/
theorem L_of_ne (g : GSem nD τ sig) (h : g.1.2 ≠ .tc) : L g = ∅ := if_neg h
/-- A semaphore of the core has one level. -/
theorem L_tc (c : Dev nD) (sm : SemLoc sig) : L ((c : Thread nD τ), sm) = {()} := if_pos rfl

/-- The barrier's level is one. -/
theorem lv_bar (c : Dev nD) : lv (cBar c) () = 1 := by
  show (match which (csem none) with | some none => 1 | some (some (1, k)) => 2 + 2 * k.val | some (some (3, k)) => 3 + 2 * k.val | _ => 0) = 1
  rw [which_csem]
/-- The level of chunk `n`'s arrival along `x` is `2 + 2 n`. -/
theorem lv_rx (c : Dev nD) {n : ℕ} (h : n < 16) : lv (cRx c n) () = 2 + 2 * n := by
  show (match which (csem (some (1, ⟨n, h⟩))) with | some none => 1 | some (some (1, k)) => 2 + 2 * k.val | some (some (3, k)) => 3 + 2 * k.val | _ => 0) = _
  rw [which_csem]; rfl
/-- The level of chunk `n`'s arrival along `y` is `3 + 2 n`. -/
theorem lv_ry (c : Dev nD) {n : ℕ} (h : n < 16) : lv (cRy c n) () = 3 + 2 * n := by
  show (match which (csem (some (3, ⟨n, h⟩))) with | some none => 1 | some (some (1, k)) => 2 + 2 * k.val | some (some (3, k)) => 3 + 2 * k.val | _ => 0) = _
  rw [which_csem]; rfl

/-- A wait on a semaphore below all that is owed. -/
theorem mayWait (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The semaphores of level zero: those of the local copies, and those by which a chunk has left. -/
def Low (sm : SemLoc sig) : Prop := ∀ c : Dev nD, lv ((c : Thread nD τ), sm) () = 0

/-- A semaphore that is not shared has level zero. -/
theorem low_own {sm : SemLoc sig} (h : ∀ i, csem i ≠ sm) : Low sm := fun c => by
  show (match which sm with | some none => 1 | some (some (1, k)) => 2 + 2 * k.val | some (some (3, k)) => 3 + 2 * k.val | _ => 0) = 0
  rw [which_none h]

/-- One of two semaphores depends on the number's parity alone. -/
theorem cell2_congr (a : DmaSems sig S2) {n m : ℕ} (h : n % 2 = m % 2) : cell2 a n = cell2 a m := by
  have key : ∀ k k' (e : k = k') (hk : ∀ a, (![k] : Fin 1 → ℕ) a + S1.size a ≤ S2.size a) (hk' : ∀ a, (![k'] : Fin 1 → ℕ) a + S1.size a ≤ S2.size a),
      (a.slice (Rect.unit (s := S2) ![k] S1.size hk)).squeeze S_ squeezes_S1_S_ = (a.slice (Rect.unit (s := S2) ![k'] S1.size hk')).squeeze S_ squeezes_S1_S_ := by
    rintro k _ rfl _ _; rfl
  exact key _ _ h _ _
/-- The same, with the parity taken first. -/
theorem cell2_mod (a : DmaSems sig S2) (n : ℕ) : cell2 a (n % 2) = cell2 a n := cell2_congr a (Nat.mod_mod _ _)
/-- One of four semaphores depends on the number modulo four. -/
theorem cell4_congr (a : DmaSems sig S4) {n m : ℕ} (h : n % 4 = m % 4) : cell4 a n = cell4 a m := by
  have key : ∀ k k' (e : k = k') (hk : ∀ a, (![k] : Fin 1 → ℕ) a + S1.size a ≤ S4.size a) (hk' : ∀ a, (![k'] : Fin 1 → ℕ) a + S1.size a ≤ S4.size a),
      (a.slice (Rect.unit (s := S4) ![k] S1.size hk)).squeeze S_ squeezes_S1_S_ = (a.slice (Rect.unit (s := S4) ![k'] S1.size hk')).squeeze S_ squeezes_S1_S_ := by
    rintro k _ rfl _ _; rfl
  exact key _ _ h _ _
/-- The same, with the remainder taken first. -/
theorem cell4_mod (a : DmaSems sig S4) (n : ℕ) : cell4 a (n % 4) = cell4 a n := cell4_congr a (Nat.mod_mod _ _)

/-- The semaphores of the slabs' copies have level zero. -/
theorem low_x (n : ℕ) : Low (.dma (xSem n)) := by
  have h : ∀ k : Fin 2, ∀ i, csem i ≠ .dma (xSem k.val) := by decide +kernel
  refine low_own fun i => ?_
  have := h ⟨n % 2, Nat.mod_lt _ (by decide)⟩ i
  simpa only [xSem, cell2_mod] using this
/-- The semaphores of the loads of `dy` have level zero. -/
theorem low_dy (n : ℕ) : Low (.dma (dySem n)) := by
  have h : ∀ k : Fin 2, ∀ i, csem i ≠ .dma (dySem k.val) := by decide +kernel
  refine low_own fun i => ?_
  have := h ⟨n % 2, Nat.mod_lt _ (by decide)⟩ i
  simpa only [dySem, cell2_mod] using this
/-- The semaphores of the stores have level zero. -/
theorem low_st (n : ℕ) : Low (.dma (stSem n)) := by
  have h : ∀ k : Fin 4, ∀ i, csem i ≠ .dma (stSem k.val) := by decide +kernel
  refine low_own fun i => ?_
  have := h ⟨n % 4, Nat.mod_lt _ (by decide)⟩ i
  simpa only [stSem, cell4_mod] using this
/-- The semaphores of the stores of the neighbour's chunks have level zero. -/
theorem low_yst (n : ℕ) : Low (.dma (ystSem n)) := by
  have h : ∀ k : Fin 4, ∀ i, csem i ≠ .dma (ystSem k.val) := by decide +kernel
  refine low_own fun i => ?_
  have := h ⟨n % 4, Nat.mod_lt _ (by decide)⟩ i
  simpa only [ystSem, cell4_mod] using this
/-- The semaphores that say a chunk has left along `x` have level zero. -/
theorem low_sx {n : ℕ} (h : n < 16) : Low (.dma (sxSem n)) := fun c => by
  show (match which (csem (some (0, ⟨n, h⟩))) with | some none => 1 | some (some (1, k)) => 2 + 2 * k.val | some (some (3, k)) => 3 + 2 * k.val | _ => 0) = _
  rw [which_csem]; rfl
/-- The semaphores that say a chunk has left along `y` have level zero. -/
theorem low_sy {n : ℕ} (h : n < 16) : Low (.dma (sySem n)) := fun c => by
  show (match which (csem (some (2, ⟨n, h⟩))) with | some none => 1 | some (some (1, k)) => 2 + 2 * k.val | some (some (3, k)) => 3 + 2 * k.val | _ => 0) = _
  rw [which_csem]; rfl

/-- While chunks are owed, a wait at level zero is allowed. -/
theorem may_low (c : Dev nD) {sm : SemLoc sig} (hl : Low sm) (n f : ℕ) : (levAts L lv : sProp 𝕄) ⊢ MayWait (c : Thread nD τ) sm () (owed c n f) :=
  mayWait c sm _ fun g u hg => by
    rw [hl c]
    rcases owed_pos hg with ⟨i, -, hi, rfl⟩ | ⟨i, -, hi, rfl⟩
    · exact ⟨rfl, by rw [lv_rx _ hi]; omega⟩
    · exact ⟨rfl, by rw [lv_ry _ hi]; omega⟩

/-- What is owed at launch: the neighbours' barriers, and the arrivals. -/
theorem start_pos {c : Dev nD} {g : GSem nD τ sig} {u : Unit} (h : 0 < O₀ c g u) :
    g = cBar (yPeer c) ∨ g = cBar (xPeer c) ∨ 0 < owed c 0 0 g u := by
  unfold O₀ at h
  generalize owed c 0 0 = O at h ⊢
  rw [Pi.add_apply, Finsupp.add_apply, Pi.add_apply, Finsupp.add_apply, tallyAt_apply, tallyAt_apply] at h
  by_contra hn
  rw [not_or, not_or] at hn
  rw [if_neg (fun e => hn.1 e.1), if_neg (fun e => hn.2.1 e.1)] at h
  exact hn.2.2 h

/-- A device may wait for a semaphore of level zero also before the handshake. -/
theorem may_low₀ (c : Dev nD) {sm : SemLoc sig} (hl : Low sm) : (levAts L lv : sProp 𝕄) ⊢ MayWait (c : Thread nD τ) sm () (O₀ c) :=
  mayWait c sm _ fun g u hg => by
    rw [hl c]
    rcases start_pos hg with rfl | rfl | hg
    · rw [lv_bar]; exact ⟨rfl, Nat.one_pos⟩
    · rw [lv_bar]; exact ⟨rfl, Nat.one_pos⟩
    rcases owed_pos hg with ⟨i, -, hi, rfl⟩ | ⟨i, -, hi, rfl⟩
    · exact ⟨rfl, by rw [lv_rx _ hi]; omega⟩
    · exact ⟨rfl, by rw [lv_ry _ hi]; omega⟩

/-- A device may wait for the barrier when it owes only the arrivals. -/
theorem may_bar (c : Dev nD) : (levAts L lv : sProp 𝕄) ⊢ MayWait (c : Thread nD τ) (.reg barSem) () (owed c 0 0) :=
  mayWait c _ _ fun g u hg => by
    rw [show lv ((c : Thread nD τ), .reg barSem) () = 1 from lv_bar c]
    rcases owed_pos hg with ⟨i, -, hi, rfl⟩ | ⟨i, -, hi, rfl⟩
    · exact ⟨rfl, by rw [lv_rx _ hi]; omega⟩
    · exact ⟨rfl, by rw [lv_ry _ hi]; omega⟩

/-- A device may wait for chunk `k` along `x` when it has sent its own along `x` up to `k` and along `y` those before. -/
theorem may_rx (c : Dev nD) {k n f : ℕ} (hk : k < 16) (hn : k < n) (hf : k ≤ f) :
    (levAts L lv : sProp 𝕄) ⊢ MayWait (c : Thread nD τ) (.dma (rxSem k)) () (owed c n f) :=
  mayWait c _ _ fun g u hg => by
    rw [show lv ((c : Thread nD τ), .dma (rxSem k)) () = 2 + 2 * k from lv_rx c hk]
    rcases owed_pos hg with ⟨i, hi', hi, rfl⟩ | ⟨i, hi', hi, rfl⟩
    · exact ⟨rfl, by rw [lv_rx _ hi]; omega⟩
    · exact ⟨rfl, by rw [lv_ry _ hi]; omega⟩

/-- A device may wait for chunk `k` along `y` when it has sent its own along `y` up to `k`, and along `x` up to the next or all. -/
theorem may_ry (c : Dev nD) {k n f : ℕ} (hk : k < 16) (hn : k + 1 < n ∨ n = 16) (hf : k < f) :
    (levAts L lv : sProp 𝕄) ⊢ MayWait (c : Thread nD τ) (.dma (rySem k)) () (owed c n f) :=
  mayWait c _ _ fun g u hg => by
    rw [show lv ((c : Thread nD τ), .dma (rySem k)) () = 3 + 2 * k from lv_ry c hk]
    rcases owed_pos hg with ⟨i, hi', hi, rfl⟩ | ⟨i, hi', hi, rfl⟩
    · exact ⟨rfl, by rw [lv_rx _ hi]; omega⟩
    · exact ⟨rfl, by rw [lv_ry _ hi]; omega⟩

/-! ## The rules of the shared cells -/

section Cells

variable (X0 : Dev nD → Vec F S2048x2048 .f32) (D0 : Dev nD → Vec F S2048x8192 .f32)

/-- What every device knows: the cells' invariants, that each is at its round, and the levels. -/
def env (K : Dev nD × CI → ℕ) : sProp 𝕄 :=
  iprop((bigSep Finset.univ fun p : Dev nD × CI => cellInv ER (Rd X0 D0) (K p) (kcell p))
    ∗ (bigSep Finset.univ fun p : Dev nD × CI => reached ER (kcell p) 0) ∗ levAts L lv)

instance env_persistent (K : Dev nD × CI → ℕ) : BI.Persistent (env X0 D0 K) := by unfold env; infer_instance

variable (K : Dev nD × CI → ℕ)

/-- What is known throughout gives each shared semaphore's invariant. -/
theorem env_inv (p : Dev nD × CI) : env X0 D0 K ⊢ cellInv ER (Rd X0 D0) (K p) (kcell p) := by
  have h : (bigSep Finset.univ fun p : Dev nD × CI => (cellInv ER (Rd X0 D0) (K p) (kcell p) : sProp 𝕄)) ⊢ cellInv ER (Rd X0 D0) (K p) (kcell p) :=
    bigSep_elim (Finset.mem_univ p)
  unfold env; iintro ⟨H, -⟩; iapply h; iexact H
/-- What is known throughout says that each shared semaphore's first round has begun. -/
theorem env_reached (p : Dev nD × CI) : env X0 D0 K ⊢ reached ER (kcell p) 0 := by
  have h : (bigSep Finset.univ fun p : Dev nD × CI => (reached ER (kcell p) 0 : sProp 𝕄)) ⊢ reached ER (kcell p) 0 := bigSep_elim (Finset.mem_univ p)
  unfold env; iintro ⟨-, H, -⟩; iapply h; iexact H
/-- What is known throughout gives the levels. -/
theorem env_lev : env X0 D0 K ⊢ levAts L lv := by unfold env; iintro ⟨-, -, H⟩; iexact H

variable {α : Type} {sp sp' : Space} {s s' : Shape} {e e' : EltTy}

/-- A chunk is sent: its staging slot goes to the cell of the departure, the landing columns, rewritten, to
    the cell of the arrival. -/
theorem wp_send_chunk (c c' : Dev nD) (p p' : Fin 4 × Fin 16) (sS sem : DmaSem sig) (hS : csem (some p) = .dma sS) (hR : csem (some p') = .dma sem)
    {src : Memref sig .tc .vmem S1024x256 .bf16} {dst : Memref sig .tc .vmem S1024x256 .bf16} {hsc : dst.view.ref.isScScratch = false}
    {hsrc : src.view.WordExact} {hdst : dst.view.WordExact} {hsem : DmaTarget.Typed .vmem (.dma sem) (.remote (Dev.tc c' : Thread nD τ) dst (.dma sS) hsc)}
    {X : Vec F S1024x256 .bf16} (hN : credit dst = N)
    (hpay : anyAt c src ⊢ pay X0 D0 c (some p) false)
    (hpay' : owns (c' : Thread nD τ) dst fullShare X ⊢ pay X0 D0 c' (some p') false)
    {k : PUnit → Code F α} {Q : α → sProp 𝕄} (O : CellTallies nD τ sig Unit) :
    iprop(env X0 D0 K ∗ owns (c : Thread nD τ) src fullShare X ∗ anyAt c' dst
        ∗ owesAny c (O + tallyAt ((c' : Thread nD τ), .dma sem) () N)
        ∗ dutyTok ER ((c : Thread nD τ), .dma sS) 0 false ∗ dutyTok ER ((c' : Thread nD τ), .dma sem) 0 false)
      ⊢ iprop((iprop(cred (tallyAt ((c : Thread nD τ), .dma sS) () N) ∗ owesAny c O) -∗ wpc c (k ⟨⟩) Q)
          -∗ wpc c (.op (.enqueueDma src (.remote (Dev.tc c' : Thread nD τ) dst (.dma sS) hsc) (.dma sem) hsrc hdst hsem) k) Q) := by
  have hcS : kcell (c, some p) = ((c : Thread nD τ), .dma sS) := by show ((c : Thread nD τ), csem (some p)) = _; rw [hS]
  have hcR : kcell (c', some p') = ((c' : Thread nD τ), .dma sem) := by show ((c' : Thread nD τ), csem (some p')) = _; rw [hR]
  iintro ⟨#He, Hs, Hd, HO, Ht, Ht'⟩ Hk
  unfold anyAt owns owesAny
  icases Hs with ⟨%fs, %hfs, Hs⟩
  icases Hd with ⟨%Y, %fd, %hfd, Hd⟩
  icases HO with ⟨%W, HO⟩
  have hown : (src.view.loc (c : Thread nD τ) ↦[src.view.set]{fullShare} fs : sProp 𝕄) ⊢ anyAt c src := by
    unfold anyAt owns
    iintro H
    iexists X; iexists fs
    isplitr; · ipureintro; exact hfs
    iexact H
  have hown' : ∀ fd, (dst.view.loc (c' : Thread nD τ) ↦[dst.view.set]{fullShare} (dst.view.write (Elt F) fd (src.view.read (Elt F) fs) Finset.univ) : sProp 𝕄)
      ⊢ owns (c' : Thread nD τ) dst fullShare X := fun fd => by
    unfold owns
    iintro H
    iexists (dst.view.write (Elt F) fd (src.view.read (Elt F) fs) Finset.univ)
    isplitr; · ipureintro; exact (View.read_write_univ _ _).trans hfs
    iexact H
  iapply (Rounds.wp_send_pointsTo 𝒱₀ ER (Rd X0 D0) (c : Thread nD τ) none (κ₁ := K (c, some p)) (κ₂ := K (c', some p')) (src := src) (dst := dst) (sS := .dma sS) (sem := .dma sem) (hsc := hsc)
    (c' := (Dev.tc c' : Thread nD τ)) (r₁ := 0) (r₂ := 0) (d₁ := false) (d₂ := false) (fs := fs) (fd := fd) (q := fullShare)
    (by rw [← hcS, duties_xfer]; exact Finset.mem_singleton_self _) (by rw [← hcR, duties_xfer]; exact Finset.mem_singleton_self _)
    () () N hN (by rw [← hcS]; exact amount_xfer X0 D0 c p false) (by rw [← hcR]; exact amount_xfer X0 D0 c' p' false) O rfl (W := W)
    (by
      rw [← hcS, payload_eq]
      exact hown.trans hpay)
    (by
      rw [← hcR, payload_eq]
      exact (hown' fd).trans hpay')) $$ [Hs Hd HO Ht Ht']
  · isplitr; · rw [← hcS]; iapply (env_inv X0 D0 K (c, some p)); iexact He
    isplitr; · rw [← hcR]; iapply (env_inv X0 D0 K (c', some p')); iexact He
    isplitl [Hs]; · iexact Hs
    isplitl [Hd]; · iexact Hd
    isplitl [HO]; · iexact HO
    isplitl [Ht]; · iexact Ht
    isplitr; · rw [← hcS]; iapply (env_reached X0 D0 K (c, some p)); iexact He
    isplitl [Ht']; · iexact Ht'
    rw [← hcR]; iapply (env_reached X0 D0 K (c', some p')); iexact He
  iintro ⟨Hc, HO⟩
  iapply Hk
  isplitl [Hc]; · iexact Hc
  iexists W; iexact HO

/-- A shared cell is waited for: what it brings, and its counter, at zero for good. -/
theorem wp_wait_chunk (c : Dev nD) (p : Fin 4 × Fin 16) (sem : DmaSem sig) (hS : csem (some p) = .dma sem)
    {srcw : Memref sig .tc sp' s' e'} {dstw : Memref sig .tc sp s e}
    {hsrc : srcw.view.WordExact} {hdst : dstw.view.WordExact} (hN : credit dstw = N)
    {k : PUnit → Code F α} {Q : α → sProp 𝕄} (O : CellTallies nD τ sig Unit)
    (hw : (levAts L lv : sProp 𝕄) ⊢ MayWait (c : Thread nD τ) (.dma sem) () O) :
    iprop(env X0 D0 K ∗ cred (tallyAt ((c : Thread nD τ), .dma sem) () N) ∗ owesAny c O ∗ atPos ER ((c : Thread nD τ), .dma sem) 0 ∅ 0)
      ⊢ iprop((iprop(pay X0 D0 c (some p) false ∗ semVal ((c : Thread nD τ), .dma sem) 0 ∗ owesAny c O) -∗ wpc c (k ⟨⟩) Q)
          -∗ wpc c (.op (.waitDma2 sem srcw dstw hsrc hdst) k) Q) := by
  have hcS : kcell (c, some p) = ((c : Thread nD τ), .dma sem) := by show ((c : Thread nD τ), csem (some p)) = _; rw [hS]
  iintro ⟨#He, Hc, HO, Hat⟩ Hk
  unfold owesAny
  icases HO with ⟨%W, HO⟩
  iapply (Rounds.wp_wait_rest_token 𝒱₀ ER (Rd X0 D0) (c : Thread nD τ) none (κ := K (c, some p))
      (wpE_waitDma2_eq 𝒱₀ (c : Thread nD τ) none Set.univ) (Set.mem_univ _) () (O := O) (W := W) (R := 0) (m := 0) (T := ∅)
      (by rw [← hcS, expect_xfer, Nat.zero_add]; exact hN)) $$ [Hc HO Hat]
  · isplitr; · rw [← hcS]; iapply (env_inv X0 D0 K (c, some p)); iexact He
    isplitl [Hc]; · rw [show dstw.view.dmaCredit = N from hN]; iexact Hc
    isplitl [HO]; · iexact HO
    isplitr; · iapply hw; iapply (env_lev X0 D0 K); iexact He
    iexact Hat
  iintro ⟨HO, Hat, -, Hpay⟩
  imod (Rounds.cell_close ER (Rd X0 D0) (Set.mem_univ (K (c, some p))) (fun h => h) (R := 0 + 1) (duties_later X0 D0 ((c : Thread nD τ), .dma sem))) $$ [Hat] with Hz
  · isplitr; · rw [← hcS]; iapply (env_inv X0 D0 K (c, some p)); iexact He
    iexact Hat
  iapply Hk
  isplitl [Hpay]
  · iapply (Entails.of_eq (rest_xfer X0 D0 c p))
    rw [hcS]; iexact Hpay
  isplitl [Hz]; · iexact Hz
  iexists _; iexact HO

end Cells

end Cert.KernelIdeal.Flow

end
-- ==== Proof.Parts.lean ====
module

public import proofs.«01_k».proof.Proof.Protocol

@[expose] public section

set_option maxRecDepth 16384

/-! # Buffers in parts

A buffer is the family of its slots, slabs or groups of columns; it is taken apart at the launch, and
put together when the body is done. -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section General

variable (c : Dev nD) {sp : Space} {s : Shape} {e : EltTy} (m : Memref sig .tc sp s e)

/-- If one memref's contents always give another's, then at some contents the one gives the other. -/
theorem any_mono {sp' : Space} {s' : Shape} {e' : EltTy} {m : Memref sig .tc sp s e} {m' : Memref sig .tc sp' s' e'}
    {f : (s.Idx → Elt F e) → s'.Idx → Elt F e'} (h : ∀ X, (owns (c : Thread nD τ) m fullShare X : sProp 𝕄) ⊢ owns (c : Thread nD τ) m' fullShare (f X)) :
    (anyAt c m : sProp 𝕄) ⊢ anyAt c m' := by
  unfold anyAt
  iintro ⟨%X, H⟩
  iexists (f X)
  iapply (h X); iexact H

/-- Parts held at anything make the whole at something. -/
theorem any_of_rects {T : Type} [Fintype T] [DecidableEq T] (r : T → Rect s) (hr : ∀ t a, (r t).stride a = 1)
    (hd : ∀ t t', t ≠ t' → Disjoint (r t).set (r t').set) (hcov : Finset.univ.biUnion (fun t => (r t).set) = Finset.univ) :
    (bigSep Finset.univ fun t => anyAt c (m.slice (r t) (hr t)) : sProp 𝕄) ⊢ anyAt c m := by
  classical
  have h1 : (bigSep Finset.univ fun t => anyAt c (m.slice (r t) (hr t)) : sProp 𝕄)
      ⊢ iprop(∃ Y : (t : T) → (r t).shape.Idx → Elt F e, bigSep Finset.univ fun t => owns (c : Thread nD τ) (m.slice (r t) (hr t)) fullShare (Y t)) := by
    unfold anyAt
    exact BI.bigSep_exists_pi Finset.univ _
  refine h1.trans ?_
  iintro ⟨%Y, H⟩
  have hin : ∀ i : s.Idx, ∃ t, ∃ j, (r t).emb j = i := fun i => by
    obtain ⟨t, -, ht⟩ := Finset.mem_biUnion.mp (hcov.symm ▸ Finset.mem_univ i)
    obtain ⟨j, hj⟩ := (r t).exists_idx_of_mem ht
    exact ⟨t, j, hj⟩
  let X : s.Idx → Elt F e := fun i => Y (hin i).choose (hin i).choose_spec.choose
  have key : ∀ t j, X ((r t).emb j) = Y t j := fun t j => by
    have gen : ∀ (t' : T) (j' : (r t').shape.Idx), (r t').emb j' = (r t).emb j → Y t' j' = Y t j := by
      intro t' j' hj
      have : t' = t := by
        by_contra hne
        have h2 : (r t').idx j' ∈ (r t).set := by rw [show (r t').idx j' = (r t).idx j from hj]; exact (r t).idx_mem j
        exact Finset.disjoint_left.mp (hd t' t hne) ((r t').idx_mem j') h2
      subst this
      rw [(r t').emb.injective hj]
    exact gen _ _ (hin ((r t).emb j)).choose_spec.choose_spec
  unfold anyAt
  iexists X
  iapply (owns_of_rects (c : Thread nD τ) m fullShare r hr hd hcov X)
  rw [show (fun t => (owns (c : Thread nD τ) (m.slice (r t) (hr t)) fullShare (fun j => X ((r t).emb j)) : sProp 𝕄))
    = fun t => owns (c : Thread nD τ) (m.slice (r t) (hr t)) fullShare (Y t) from funext fun t => by rw [funext (key t)]]
  iexact H

/-- A numbered family of rectangles of one buffer, each inside, no two meeting, together all. -/
structure Tiling (r : ℕ → Rect s) (k : ℕ) : Prop where
  unit : ∀ n a, (r n).stride a = 1
  disj : ∀ i j, i < k → j < k → i ≠ j → Disjoint (r i).set (r j).set
  cover : ∀ i : s.Idx, ∃ n, n < k ∧ i ∈ (r n).set

variable {m} {r : ℕ → Rect s} {k : ℕ} (ht : Tiling r k)
include ht

/-- Two different pieces of a tiling share no element. -/
theorem Tiling.hd (t t' : Fin k) (h : t ≠ t') : Disjoint (r t.val).set (r t'.val).set :=
  ht.disj _ _ t.isLt t'.isLt fun e => h (Fin.ext e)
/-- The pieces of a tiling cover the whole. -/
theorem Tiling.hcov : (Finset.univ : Finset (Fin k)).biUnion (fun t => (r t.val).set) = Finset.univ :=
  Finset.eq_univ_iff_forall.mpr fun i => by
    obtain ⟨n, hn, hi⟩ := ht.cover i
    exact Finset.mem_biUnion.mpr ⟨⟨n, hn⟩, Finset.mem_univ _, hi⟩

/-- A whole array gives its pieces, each at its part of the contents. -/
theorem fam_split (q : PosShare TreeShare) (X : s.Idx → Elt F e) :
    (owns (c : Thread nD τ) m q X : sProp 𝕄) ⊢ fam (fun n => owns (c : Thread nD τ) (m.slice (r n) (ht.unit n)) q fun j => X ((r n).emb j)) 0 k := by
  rw [fam_fin]
  exact owns_rects (c : Thread nD τ) m q (fun t : Fin k => r t.val) (fun t => ht.unit t.val) ht.hd ht.hcov X

/-- The pieces of an array, each at its part of the contents, give the whole. -/
theorem fam_join (q : PosShare TreeShare) (X : s.Idx → Elt F e) :
    (fam (fun n => owns (c : Thread nD τ) (m.slice (r n) (ht.unit n)) q fun j => X ((r n).emb j)) 0 k : sProp 𝕄) ⊢ owns (c : Thread nD τ) m q X := by
  rw [fam_fin]
  exact owns_of_rects (c : Thread nD τ) m q (fun t : Fin k => r t.val) (fun t => ht.unit t.val) ht.hd ht.hcov X

/-- A whole array at some contents gives its pieces at some contents. -/
theorem any_split : (anyAt c m : sProp 𝕄) ⊢ fam (fun n => anyAt c (m.slice (r n) (ht.unit n))) 0 k := by
  unfold anyAt
  iintro ⟨%X, H⟩
  iapply (fam_mono 0 k fun n => anyAt_intro c (m := m.slice (r n) (ht.unit n)) (fun j => X ((r n).emb j)))
  iapply (fam_split c ht fullShare X); iexact H

/-- The pieces of an array, each at some contents, give the whole at some contents. -/
theorem any_join : (fam (fun n => anyAt c (m.slice (r n) (ht.unit n))) 0 k : sProp 𝕄) ⊢ anyAt c m := by
  rw [fam_fin]
  exact any_of_rects c m (fun t : Fin k => r t.val) (fun t => ht.unit t.val) ht.hd ht.hcov

end General

/-! ## The tilings -/

/-- The four slots of a staging buffer tile it. -/
theorem tile_slot : Tiling slotR 4 where
  unit _ _ := rfl
  disj i j hi hj h := Rect.unit_disjoint (0 : Fin 3) (by
    show i % 4 + 1 ≤ j % 4 ∨ j % 4 + 1 ≤ i % 4
    omega)
  cover i := by
    have h0 : (i (0 : Fin 3)).val < 4 := (i 0).isLt
    have h1 : (i (1 : Fin 3)).val < 1024 := (i 1).isLt
    have h2 : (i (2 : Fin 3)).val < 256 := (i 2).isLt
    refine ⟨(i (0 : Fin 3)).val, h0, Rect.mem_set_unit.mpr fun a => ?_⟩
    fin_cases a
    · show (i (0 : Fin 3)).val % 4 ≤ (i (0 : Fin 3)).val ∧ (i (0 : Fin 3)).val < (i (0 : Fin 3)).val % 4 + 1
      omega
    · show 0 ≤ (i (1 : Fin 3)).val ∧ (i (1 : Fin 3)).val < 0 + 1024
      omega
    · show 0 ≤ (i (2 : Fin 3)).val ∧ (i (2 : Fin 3)).val < 0 + 256
      omega

/-- The sixteen column blocks of a landing buffer tile it. -/
theorem tile_cols : Tiling colsR 16 where
  unit _ _ := rfl
  disj i j hi hj h := Rect.unit_disjoint (1 : Fin 2) (by
    show 256 * (i % 16) + 256 ≤ 256 * (j % 16) ∨ 256 * (j % 16) + 256 ≤ 256 * (i % 16)
    omega)
  cover i := by
    have h0 : (i (0 : Fin 2)).val < 1024 := (i 0).isLt
    have h1 : (i (1 : Fin 2)).val < 4096 := (i 1).isLt
    refine ⟨(i (1 : Fin 2)).val / 256, by omega, Rect.mem_set_unit.mpr fun a => ?_⟩
    fin_cases a
    · show 0 ≤ (i (0 : Fin 2)).val ∧ (i (0 : Fin 2)).val < 0 + 1024
      omega
    · show 256 * ((i (1 : Fin 2)).val / 256 % 16) ≤ (i (1 : Fin 2)).val ∧ (i (1 : Fin 2)).val < 256 * ((i (1 : Fin 2)).val / 256 % 16) + 256
      omega

/-- The four slabs of `x` tile it. -/
theorem tile_slab : Tiling slabR 4 where
  unit _ _ := rfl
  disj i j hi hj h := Rect.unit_disjoint (0 : Fin 2) (by
    show 512 * (i % 4) + 512 ≤ 512 * (j % 4) ∨ 512 * (j % 4) + 512 ≤ 512 * (i % 4)
    omega)
  cover i := by
    have h0 : (i (0 : Fin 2)).val < 2048 := (i 0).isLt
    have h1 : (i (1 : Fin 2)).val < 2048 := (i 1).isLt
    refine ⟨(i (0 : Fin 2)).val / 512, by omega, Rect.mem_set_unit.mpr fun a => ?_⟩
    fin_cases a
    · show 512 * ((i (0 : Fin 2)).val / 512 % 4) ≤ (i (0 : Fin 2)).val ∧ (i (0 : Fin 2)).val < 512 * ((i (0 : Fin 2)).val / 512 % 4) + 512
      omega
    · show 0 ≤ (i (1 : Fin 2)).val ∧ (i (1 : Fin 2)).val < 0 + 2048
      omega

/-- A product's rows: those for the neighbour, and this device's. -/
def rowsR (c : Dev nD) : ℕ → Rect S2048x256
  | 0 => otherR c
  | _ => mineR c

/-- This device's rows of a product and its neighbour's tile it. -/
theorem tile_rows (c : Dev nD) : Tiling (rowsR c) 2 where
  unit n a := by cases n <;> rfl
  disj i j hi hj h := by
    have hc : c.val < 4 := c.isLt
    have key : Disjoint (otherR c).set (mineR c).set := Rect.unit_disjoint (0 : Fin 2) (by
      rw [k0_off2_eq, k0_off3_eq]
      show 1024 - 1024 * (c.val / 2) + 1024 ≤ 1024 * (c.val / 2) ∨ 1024 * (c.val / 2) + 1024 ≤ 1024 - 1024 * (c.val / 2)
      omega)
    rcases i with _ | i <;> rcases j with _ | j
    · exact absurd rfl h
    · exact key
    · exact key.symm
    · omega
  cover i := by
    have hc : c.val < 4 := c.isLt
    have h0 : (i (0 : Fin 2)).val < 2048 := (i 0).isLt
    have h1 : (i (1 : Fin 2)).val < 256 := (i 1).isLt
    by_cases h : (i (0 : Fin 2)).val / 1024 = c.val / 2
    · refine ⟨1, by decide, (Rect.mem_set_unit (inb := k0_off3_inb c)).mpr fun a => ?_⟩
      rw [k0_off3_eq]
      fin_cases a
      · show 1024 * (c.val / 2) ≤ (i (0 : Fin 2)).val ∧ (i (0 : Fin 2)).val < 1024 * (c.val / 2) + 1024
        omega
      · show 0 ≤ (i (1 : Fin 2)).val ∧ (i (1 : Fin 2)).val < 0 + 256
        omega
    · refine ⟨0, by decide, (Rect.mem_set_unit (inb := k0_off2_inb c)).mpr fun a => ?_⟩
      rw [k0_off2_eq]
      fin_cases a
      · show 1024 - 1024 * (c.val / 2) ≤ (i (0 : Fin 2)).val ∧ (i (0 : Fin 2)).val < 1024 - 1024 * (c.val / 2) + 1024
        omega
      · show 0 ≤ (i (1 : Fin 2)).val ∧ (i (1 : Fin 2)).val < 0 + 256
        omega

/-- The rectangle of a whole staging buffer holds every element. -/
theorem full_univ : (fullR).set = Finset.univ := Finset.eq_univ_iff_forall.mpr fun i => Rect.mem_set_unit.mpr fun a => by
  have h0 : (i (0 : Fin 2)).val < 2048 := (i 0).isLt
  have h1 : (i (1 : Fin 2)).val < 256 := (i 1).isLt
  fin_cases a
  · show 0 ≤ (i (0 : Fin 2)).val ∧ (i (0 : Fin 2)).val < 0 + 2048
    omega
  · show 0 ≤ (i (1 : Fin 2)).val ∧ (i (1 : Fin 2)).val < 0 + 256
    omega

/-- The rectangle of a whole staging buffer has each element at its own place. -/
theorem full_emb (j : S2048x256.Idx) : fullR.emb j = j := funext fun a => Fin.ext (by
  rw [Rect.emb_apply]
  fin_cases a
  · show 0 + 1 * (j (0 : Fin 2)).val = _; rw [Nat.zero_add, Nat.one_mul]; rfl
  · show 0 + 1 * (j (1 : Fin 2)).val = _; rw [Nat.zero_add, Nat.one_mul]; rfl)

end Cert.KernelIdeal.Flow

end
-- ==== Proof.Body.lean ====
module

public import proofs.«01_k».proof.Proof.Parts

@[expose] public section

set_option maxRecDepth 16384

/-! # The steps of the body

Each step of the body is run once, at a chunk's number `n`, on a device `c`. -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Loads and stores of what is held whole -/

section Rules

variable (c : Dev nD) {s : Shape} {e : EltTy} {α : Type} {cs : CoreSpace}

/-- A load of a part of what is held. -/
theorem wp_ld_in {m : Memref sig .tc cs s e} {r : Rect s} (hr : ∀ a, r.stride a = 1)
    {hl : m.view.LoadsAt r.toLoadRect} {k : (r.shape.Idx → Elt F e) → Code F α} {Q : α → sProp 𝕄}
    {q : PosShare TreeShare} {X : s.Idx → Elt F e} :
    (owns (c : Thread nD τ) m q X)
      ⊢ iprop((owns (c : Thread nD τ) m q X -∗ wpc c (k fun j => X (r.emb j)) Q) -∗ wpc c (.op (.load m r.toLoadRect hl) k) Q) := by
  iintro H Hk
  ihave H := (owns_lend c r hr) $$ H
  icases H with ⟨H, Hback⟩
  iapply (wp_ld c hr) $$ H
  iintro H
  iapply Hk
  iapply Hback; iexact H

/-- A load whose value is not used. -/
theorem wp_ld_skip {m : Memref sig .tc cs s e} {r : Rect s} (hr : ∀ a, r.stride a = 1)
    {hl : m.view.LoadsAt r.toLoadRect} {p : Code F α} {Q : α → sProp 𝕄} :
    (anyAt c (m.slice r hr))
      ⊢ iprop((anyAt c (m.slice r hr) -∗ wpc c p Q) -∗ wpc c (.op (.load m r.toLoadRect hl) fun _ => p) Q) := by
  iintro H Hk
  unfold anyAt
  icases H with ⟨%X, H⟩
  iapply (wp_ld c hr) $$ H
  iintro H
  iapply Hk
  iexists X; iexact H

/-- A load whose value is not used, of a part of what is held at some contents. -/
theorem wp_ld_skip_in {m : Memref sig .tc cs s e} {r : Rect s} (hr : ∀ a, r.stride a = 1)
    {hl : m.view.LoadsAt r.toLoadRect} {p : Code F α} {Q : α → sProp 𝕄} :
    (anyAt c m)
      ⊢ iprop((anyAt c m -∗ wpc c p Q) -∗ wpc c (.op (.load m r.toLoadRect hl) fun _ => p) Q) := by
  iintro H Hk
  unfold anyAt
  icases H with ⟨%X, H⟩
  iapply (wp_ld_in c hr) $$ H
  iintro H
  iapply Hk
  iexists X; iexact H

/-- A store into a rectangle, whatever it held. -/
theorem wp_st_any {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Code F α} {Q : α → sProp 𝕄} :
    (anyAt c (m.slice r hr))
      ⊢ iprop((owns (c : Thread nD τ) (m.slice r hr) fullShare w -∗ wpc c (k ⟨⟩) Q) -∗ wpc c (.op (.store m r w Finset.univ hx hm) k) Q) := by
  iintro H
  unfold anyAt
  icases H with ⟨%X, H⟩
  iapply (wp_stv c hr); iexact H

/-- A store into a rectangle, of a value known otherwise. -/
theorem wp_st_as {m : Memref sig .tc cs s e} {r : Rect s} (hr : ∀ a, r.stride a = 1)
    {w w' : r.shape.Idx → Elt F e} (hw : w = w') {hx : (m.access r).Stores Finset.univ} {hm : (Finset.univ : Finset r.shape.Idx) = Finset.univ ∨ ∀ a, r.stride a = 1}
    {k : PUnit → Code F α} {Q : α → sProp 𝕄} :
    (anyAt c (m.slice r hr))
      ⊢ iprop((owns (c : Thread nD τ) (m.slice r hr) fullShare w' -∗ wpc c (k ⟨⟩) Q) -∗ wpc c (.op (.store m r w Finset.univ hx hm) k) Q) := by
  subst hw
  exact wp_st_any c hr

/-- A store into all of a buffer. -/
theorem wp_st_full {m : Memref sig .tc cs s e} {r : Rect s} (hr : ∀ a, r.stride a = 1) (hall : r.set = Finset.univ)
    {w : r.shape.Idx → Elt F e} {w' : s.Idx → Elt F e} (hw : w = fun j => w' (r.emb j))
    {hx : (m.access r).Stores Finset.univ} {hm : (Finset.univ : Finset r.shape.Idx) = Finset.univ ∨ ∀ a, r.stride a = 1}
    {k : PUnit → Code F α} {Q : α → sProp 𝕄} :
    (anyAt c m)
      ⊢ iprop((owns (c : Thread nD τ) m fullShare w' -∗ wpc c (k ⟨⟩) Q) -∗ wpc c (.op (.store m r w Finset.univ hx hm) k) Q) := by
  subst hw
  iintro H Hk
  ihave H := (any_mono c fun X => owns_full c hr hall) $$ H
  iapply (wp_st_any c hr) $$ H
  iintro H
  iapply Hk
  iapply (full_owns c hr hall); iexact H

end Rules

/-! ## The same slot, by another number -/

/-- The buffer for a slab depends on its number's parity alone. -/
theorem xlB_congr {n m : ℕ} (h : n % 2 = m % 2) : xlB n = xlB m := by unfold xlB; rw [h]
/-- The buffer for a chunk of `dy` depends on its number's parity alone. -/
theorem dyB_congr {n m : ℕ} (h : n % 2 = m % 2) : dyB n = dyB m := by unfold dyB; rw [h]
/-- The product buffer of a chunk depends on its number modulo four. -/
theorem pB_congr {n m : ℕ} (h : n % 4 = m % 4) : pB n = pB m := by unfold pB; rw [h]

/-- Slot `n` of an array of four. -/
abbrev slotOf {e : EltTy} (M : Memref sig .tc .vmem S4x1024x256 e) (n : ℕ) : Memref sig .tc .vmem S1x1024x256 e := M.slice (slotR n) (fun _ => rfl)

/-- The slot of a four-slot buffer that a chunk uses depends on its number modulo four. -/
theorem slot_congr {e : EltTy} (M : Memref sig .tc .vmem S4x1024x256 e) {n m : ℕ} (h : n % 4 = m % 4) : slotOf M n = slotOf M m := by
  have key : ∀ k k' (e : k = k') (hk : ∀ a, (![k, 0, 0] : Fin 3 → ℕ) a + S1x1024x256.size a ≤ S4x1024x256.size a)
      (hk' : ∀ a, (![k', 0, 0] : Fin 3 → ℕ) a + S1x1024x256.size a ≤ S4x1024x256.size a),
      (M.slice (Rect.unit (s := S4x1024x256) ![k, 0, 0] S1x1024x256.size hk) (fun _ => rfl) : Memref sig .tc .vmem S1x1024x256 _)
        = M.slice (Rect.unit (s := S4x1024x256) ![k', 0, 0] S1x1024x256.size hk') (fun _ => rfl) := by
    rintro k _ rfl _ _; rfl
  exact key _ _ h _ _

/-- The semaphore of a slab's copy depends on its number's parity alone. -/
theorem xSem_congr {n m : ℕ} (h : n % 2 = m % 2) : xSem n = xSem m := by unfold xSem; rw [cell2_congr _ h]
/-- The semaphore of a load of `dy` depends on the chunk's parity alone. -/
theorem dySem_congr {n m : ℕ} (h : n % 2 = m % 2) : dySem n = dySem m := by unfold dySem; rw [cell2_congr _ h]
/-- The semaphore of a chunk's store depends on its number modulo four. -/
theorem stSem_congr {n m : ℕ} (h : n % 4 = m % 4) : stSem n = stSem m := by unfold stSem; rw [cell4_congr _ h]
/-- The semaphore of the store of the neighbour's chunk depends on its number modulo four. -/
theorem ystSem_congr {n m : ℕ} (h : n % 4 = m % 4) : ystSem n = ystSem m := by unfold ystSem; rw [cell4_congr _ h]

/-- The rows the kernel stores are the rows it finishes. -/
theorem pMine_eq (c : Dev nD) (n : ℕ) : pMine c n = (pB n).slice (mineR c) (fun _ => rfl) := by
  have key : ∀ k k' (e : k = k') (hk : ∀ a, k a + S1024x256.size a ≤ S2048x256.size a) (hk' : ∀ a, k' a + S1024x256.size a ≤ S2048x256.size a),
      ((pB n).slice (Rect.unit (s := S2048x256) k S1024x256.size hk) (fun _ => rfl) : Memref sig .tc .vmem S1024x256 .f32)
        = (pB n).slice (Rect.unit (s := S2048x256) k' S1024x256.size hk') (fun _ => rfl) := by
    rintro k _ rfl _ _; rfl
  exact key _ _ (by rw [k0_off5_eq, k0_off3_eq]) _ _

section State

variable (X0 : Dev nD → Vec F S2048x2048 .f32) (D0 : Dev nD → Vec F S2048x8192 .f32) (c : Dev nD)

/-! ## What the device holds -/

/-- To send chunk `n` along `x`: the two duties, the landing columns, and its place at the departure. -/
def sendX (n : ℕ) : sProp 𝕄 :=
  iprop(dutyTok ER (cSx c n) 0 false ∗ dutyTok ER (cRx (xPeer c) n) 0 false ∗ anyAt (xPeer c) (rxS n) ∗ atPos ER (cSx c n) 0 ∅ 0)
/-- To send chunk `n` along `y`. -/
def sendY (n : ℕ) : sProp 𝕄 :=
  iprop(dutyTok ER (cSy c n) 0 false ∗ dutyTok ER (cRy (yPeer c) n) 0 false ∗ anyAt (yPeer c) (ryS n) ∗ atPos ER (cSy c n) 0 ∅ 0)
/-- Chunk `n` is on its way along `x`. -/
def busyX (n : ℕ) : sProp 𝕄 := iprop(cred (tallyAt (cSx c n) () N) ∗ atPos ER (cSx c n) 0 ∅ 0)
/-- Chunk `n`'s copy along `y` is under way: the right to wait for its staging slot. -/
def busyY (n : ℕ) : sProp 𝕄 := iprop(cred (tallyAt (cSy c n) () N) ∗ atPos ER (cSy c n) 0 ∅ 0)
/-- The staging slot of chunk `n`, before it is used. -/
def sbFree (n : ℕ) : sProp 𝕄 := if 4 ≤ n then busyX c (n - 4) else anyAt c (slotOf sbM n)
/-- The `y` staging slot that chunk `n` takes: free, or still held by the copy of chunk `n - 4`. -/
def ybFree (n : ℕ) : sProp 𝕄 := if 4 ≤ n then busyY c (n - 4) else anyAt c (slotOf ybM n)
/-- Chunk `n`'s copy along `x` is over, its sending semaphore at zero. -/
def goneX (n : ℕ) : sProp 𝕄 := semVal (cSx c n) 0
/-- Chunk `n`'s copy along `y` is over, its sending semaphore at zero. -/
def goneY (n : ℕ) : sProp 𝕄 := semVal (cSy c n) 0
/-- Chunk `n` is awaited from the neighbour. -/
def awaitX (n : ℕ) : sProp 𝕄 := iprop(cred (tallyAt (cRx c n) () N) ∗ atPos ER (cRx c n) 0 ∅ 0)
/-- The right to wait for chunk `n` of the `y` neighbour. -/
def awaitY (n : ℕ) : sProp 𝕄 := iprop(cred (tallyAt (cRy c n) () N) ∗ atPos ER (cRy c n) 0 ∅ 0)
/-- Chunk `n` of the `x` neighbour has come and was read. -/
def cameX (n : ℕ) : sProp 𝕄 := iprop(semVal (cRx c n) 0 ∗ anyAt c (rxS n))
/-- Chunk `n` of the `y` neighbour has come and was read. -/
def cameY (n : ℕ) : sProp 𝕄 := iprop(semVal (cRy c n) 0 ∗ anyAt c (ryS n))

/-- Chunk `n` of this device's half of the result, not yet written. -/
def outTodo (n : ℕ) : sProp 𝕄 := anyAt c (outS c n)
/-- Chunk `n` of this device's half of the result, holding its sums. -/
def outDone (n : ℕ) : sProp 𝕄 := owns (c : Thread nD τ) (outS c n) fullShare (QF X0 D0 c n)
/-- Chunk `n` of the other half of the result, not yet written. -/
def outYTodo (n : ℕ) : sProp 𝕄 := anyAt c (outYS c n)
/-- Chunk `n` of the other half of the result, holding the neighbour's sums. -/
def outYDone (n : ℕ) : sProp 𝕄 := owns (c : Thread nD τ) (outYS c n) fullShare (OY X0 D0 c n)

/-- The product buffer of chunk `n`, free. -/
def pReady (n : ℕ) : sProp 𝕄 := iprop(anyAt c (pB n) ∗ semVal ((c : Thread nD τ), .dma (stSem n)) 0)
/-- The product buffer of chunk `n`, holding this device's rows of the product. -/
def pMid (n : ℕ) : sProp 𝕄 :=
  iprop(anyAt c ((pB n).slice (otherR c) (fun _ => rfl)) ∗ owns (c : Thread nD τ) ((pB n).slice (mineR c) (fun _ => rfl)) fullShare (PM X0 D0 c n)
    ∗ semVal ((c : Thread nD τ), .dma (stSem n)) 0)
/-- The product buffer of chunk `n`, being stored into the result. -/
def pFly (n : ℕ) : sProp 𝕄 :=
  iprop(Transfers.Flight EC (c : Thread nD τ) (.dma (stSem n)) () (credit (outS c n))
      iprop(owns (c : Thread nD τ) (outS c n) fullShare (QF X0 D0 c n) ∗ owns (c : Thread nD τ) (pMine c n) fullShare (QF X0 D0 c n))
    ∗ anyAt c ((pB n).slice (otherR c) (fun _ => rfl)))
/-- The product buffer that chunk `n` takes: free, or still held by the store of chunk `n - 4`. -/
def pFree (n : ℕ) : sProp 𝕄 := if 4 ≤ n then pFly X0 D0 c (n - 4) else pReady c n

/-- The slot for the `y` neighbour's chunk `n`, free. -/
def ytReady (n : ℕ) : sProp 𝕄 := iprop(anyAt c (slotOf ytM n) ∗ semVal ((c : Thread nD τ), .dma (ystSem n)) 0)
/-- The slot for the `y` neighbour's chunk `n`, being stored into the result. -/
def ytFly (n : ℕ) : sProp 𝕄 :=
  Transfers.Flight EC (c : Thread nD τ) (.dma (ystSem n)) () (credit (outYS c n))
      iprop(owns (c : Thread nD τ) (outYS c n) fullShare (OY X0 D0 c n) ∗ owns (c : Thread nD τ) (ytS n) fullShare (OY X0 D0 c n))
/-- The slot that the `y` neighbour's chunk `n` takes: free, or still held by the store of chunk `n - 4`. -/
def ytFree (n : ℕ) : sProp 𝕄 := if 4 ≤ n then ytFly X0 D0 c (n - 4) else ytReady c n

/-- Chunk `n` of `dy` is coming; the other buffer is free. -/
def dyFly (n : ℕ) : sProp 𝕄 :=
  iprop(Transfers.Flight EC (c : Thread nD τ) (.dma (dySem n)) () (credit (dySt n))
      iprop(owns (c : Thread nD τ) (dySt n) fullShare (DY D0 c n) ∗ owns (c : Thread nD τ) (dyCols c n) fullShare (DY D0 c n))
    ∗ (owns (c : Thread nD τ) (dyCols c n) fullShare (DY D0 c n) -∗ owns (c : Thread nD τ) dyIn fullShare (D0 c)))
/-- The buffer and the semaphore for chunk `n` of `dy`, both free. -/
def dyReady (n : ℕ) : sProp 𝕄 := iprop(anyAt c (dyB n) ∗ semVal ((c : Thread nD τ), .dma (dySem n)) 0)
/-- The state of `dy` at chunk `n`: its load under way if there is such a chunk, else the argument held and the buffer free; the other buffer is free. -/
def dyState (n : ℕ) : sProp 𝕄 :=
  iprop((if n < 16 then dyFly D0 c n else iprop(owns (c : Thread nD τ) dyIn fullShare (D0 c) ∗ dyReady c n)) ∗ dyReady c (n + 1))

/-- Slab `i` of `x` is coming. -/
def xFly (i : ℕ) : sProp 𝕄 :=
  Transfers.Flight EC (c : Thread nD τ) (.dma (xSem i)) () (credit (xlB i))
      iprop(owns (c : Thread nD τ) (xlB i) fullShare (XS X0 c i) ∗ owns (c : Thread nD τ) (xSlab i) fullShare (XS X0 c i))
/-- The buffer and the semaphore for slab `i` of `x`, both free. -/
def xReady (i : ℕ) : sProp 𝕄 := iprop(anyAt c (xlB i) ∗ semVal ((c : Thread nD τ), .dma (xSem i)) 0)
/-- The buffer for slab `i`: its copy under way if there is such a slab, else free. -/
def xNext (i : ℕ) : sProp 𝕄 := if i < 4 then xFly X0 c i else xReady c i
/-- Slab `i` of `x` in the argument. -/
def xRows (i : ℕ) : sProp 𝕄 := owns (c : Thread nD τ) (xSlab i) fullShare (XS X0 c i)
/-- Slab `i` of the rounded `x`, not yet written. -/
def xbTodo (i : ℕ) : sProp 𝕄 := anyAt c (xbM.slice (slabR i) (fun _ => rfl))
/-- Slab `i` of the rounded `x`, holding its values. -/
def xbDone (i : ℕ) : sProp 𝕄 := owns (c : Thread nD τ) (xbM.slice (slabR i) (fun _ => rfl)) fullShare fun j => XB X0 c ((slabR i).emb j)

/-- A free product buffer is the same for chunks four apart. -/
theorem pReady_congr {n m : ℕ} (h : n % 4 = m % 4) : (pReady c n : sProp 𝕄) = pReady c m := by
  unfold pReady; rw [pB_congr h, stSem_congr h]
/-- A free slot for the `y` neighbour's chunks is the same for chunks four apart. -/
theorem ytReady_congr {n m : ℕ} (h : n % 4 = m % 4) : (ytReady c n : sProp 𝕄) = ytReady c m := by
  unfold ytReady; rw [slot_congr _ h, ystSem_congr h]
/-- A free buffer for `dy` is the same for chunks two apart. -/
theorem dyReady_congr {n m : ℕ} (h : n % 2 = m % 2) : (dyReady c n : sProp 𝕄) = dyReady c m := by
  unfold dyReady; rw [dyB_congr h, dySem_congr h]
/-- A free buffer for slabs is the same for slabs two apart. -/
theorem xReady_congr {n m : ℕ} (h : n % 2 = m % 2) : (xReady c n : sProp 𝕄) = xReady c m := by
  unfold xReady; rw [xlB_congr h, xSem_congr h]

/-- A product buffer's two parts. -/
theorem p_split (n : ℕ) (X : Vec F S2048x256 .f32) : (owns (c : Thread nD τ) (pB n) fullShare X : sProp 𝕄)
    ⊢ iprop(owns (c : Thread nD τ) ((pB n).slice (otherR c) (fun _ => rfl)) fullShare (fun j => X ((otherR c).emb j))
        ∗ owns (c : Thread nD τ) ((pB n).slice (mineR c) (fun _ => rfl)) fullShare (fun j => X ((mineR c).emb j))) := by
  iintro H
  ihave H := (fam_split c (tile_rows c) fullShare X) $$ H
  ihave H := (fam_pop _ (by decide : 0 < 2)) $$ H
  icases H with ⟨H0, H⟩
  ihave H := (fam_pop _ (by decide : 1 < 2)) $$ H
  icases H with ⟨H1, -⟩
  isplitl [H0]; · iexact H0
  iexact H1

/-- The two halves of the rows of a product buffer make the whole buffer. -/
theorem p_join (n : ℕ) : iprop(anyAt c ((pB n).slice (otherR c) (fun _ => rfl)) ∗ anyAt c ((pB n).slice (mineR c) (fun _ => rfl)))
    ⊢ (anyAt c (pB n) : sProp 𝕄) := by
  iintro ⟨H0, H1⟩
  iapply (any_join c (tile_rows c))
  iapply (fam_push _ (by decide : 0 ≤ 1))
  isplitl [H0]
  · iapply (fam_push _ (le_refl 0))
    isplitr
    · iapply (fam_nil _ 0); iempintro
    iexact H0
  iexact H1

end State

end Cert.KernelIdeal.Flow

end
-- ==== Proof.Chunk.lean ====
module

public import proofs.«01_k».proof.Proof.Body

@[expose] public section

set_option maxRecDepth 16384

/-! # One chunk -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X0 : Dev nD → Vec F S2048x2048 .f32) (D0 : Dev nD → Vec F S2048x8192 .f32) (K : Dev nD × CI → ℕ) (c : Dev nD)

/-- Nothing is left to run. -/
theorem wpc_ret {α : Type} (a : α) (Q : α → sProp 𝕄) : Q a ⊢ wpc c (Prog.ret a) Q := by
  unfold wpc
  rw [wp_ret]
  iintro H
  imodintro
  iexact H

/-- A local copy is waited for, by a device that knows the levels. -/
theorem wp_wait_copy {sp sp' : Space} {s s' : Shape} {e e' : EltTy} {α : Type} {srcw : Memref sig .tc sp' s' e'} {dstw : Memref sig .tc sp s e} {sm : DmaSem sig}
    {hsrc : srcw.view.WordExact} {hdst : dstw.view.WordExact} {k : PUnit → Code F α} {Q : α → sProp 𝕄}
    {M : ℕ} (hM : credit dstw = M) {D : sProp 𝕄} (O : CellTallies nD τ sig Unit)
    (hw : (levAts L lv : sProp 𝕄) ⊢ MayWait (c : Thread nD τ) (.dma sm) () O) :
    iprop(env X0 D0 K ∗ Transfers.Flight EC (c : Thread nD τ) (.dma sm) () M D ∗ owesAny c O)
      ⊢ iprop((iprop(D ∗ semVal ((c : Thread nD τ), .dma sm) 0 ∗ owesAny c O) -∗ wpc c (k ⟨⟩) Q)
          -∗ wpc c (.op (.waitDma2 sm srcw dstw hsrc hdst) k) Q) := by
  iintro ⟨#He, HF, HO⟩
  iapply (wp_wait_local c hM)
  isplitl [HF]; · iexact HF
  isplitl [HO]; · iexact HO
  iapply hw; iapply (env_lev X0 D0 K); iexact He

/-! ## The waits for a slot -/

/-- Wait until chunk `n` has left along `x`: the staging slot is free. -/
theorem waitSx_ok {n n' f' : ℕ} (hn : n < 16) (Q : PUnit → sProp 𝕄) :
    iprop(env X0 D0 K ∗ busyX c n ∗ owesAny c (owed c n' f') ∗ (iprop(anyAt c (slotOf sbM n) ∗ goneX c n ∗ owesAny c (owed c n' f')) -∗ Q ⟨⟩))
      ⊢ wpc c (waitSx n) Q := by
  unfold waitSx busyX goneX
  simp only [Prog.lift]
  iintro ⟨#He, ⟨Hc, Hat⟩, HO, Hk⟩
  iapply (wp_wait_chunk X0 D0 K c (0, ⟨n, hn⟩) (sxSem n) rfl (credit_sb n) (owed c n' f') (may_low c (low_sx hn) n' f')) $$ [Hc Hat HO]
  · isplitr; · iexact He
    isplitl [Hc]; · iexact Hc
    isplitl [HO] <;> iassumption
  iintro ⟨Hp, Hv, HO⟩
  iapply (wpc_ret c)
  iapply Hk
  isplitl [Hp]
  · iapply (show pay X0 D0 c (some (0, ⟨n, hn⟩)) false ⊢ anyAt c (slotOf sbM n) from any_unsqueeze c squeezes_S1x1024x256_S1024x256); iexact Hp
  isplitl [Hv] <;> iassumption

/-- Wait until chunk `n` has left along `y`. -/
theorem waitSy_ok {n n' f' : ℕ} (hn : n < 16) (Q : PUnit → sProp 𝕄) :
    iprop(env X0 D0 K ∗ busyY c n ∗ owesAny c (owed c n' f') ∗ (iprop(anyAt c (slotOf ybM n) ∗ goneY c n ∗ owesAny c (owed c n' f')) -∗ Q ⟨⟩))
      ⊢ wpc c (waitSy n) Q := by
  unfold waitSy busyY goneY
  simp only [Prog.lift]
  iintro ⟨#He, ⟨Hc, Hat⟩, HO, Hk⟩
  iapply (wp_wait_chunk X0 D0 K c (2, ⟨n, hn⟩) (sySem n) rfl (credit_yb n) (owed c n' f') (may_low c (low_sy hn) n' f')) $$ [Hc Hat HO]
  · isplitr; · iexact He
    isplitl [Hc]; · iexact Hc
    isplitl [HO] <;> iassumption
  iintro ⟨Hp, Hv, HO⟩
  iapply (wpc_ret c)
  iapply Hk
  isplitl [Hp]
  · iapply (show pay X0 D0 c (some (2, ⟨n, hn⟩)) false ⊢ anyAt c (slotOf ybM n) from any_unsqueeze c squeezes_S1x1024x256_S1024x256); iexact Hp
  isplitl [Hv] <;> iassumption

/-- Wait until the result's chunk `n` is stored: the product buffer is free. -/
theorem waitSt_ok {n n' f' : ℕ} (Q : PUnit → sProp 𝕄) :
    iprop(env X0 D0 K ∗ pFly X0 D0 c n ∗ owesAny c (owed c n' f') ∗ (iprop(pReady c n ∗ outDone X0 D0 c n ∗ owesAny c (owed c n' f')) -∗ Q ⟨⟩))
      ⊢ wpc c (waitSt c n) Q := by
  unfold waitSt pFly
  simp only [Prog.lift]
  iintro ⟨#He, ⟨HF, Hoth⟩, HO, Hk⟩
  iapply (wp_wait_copy X0 D0 K c (M := credit (outS c n)) rfl (owed c n' f') (may_low c (low_st n) n' f')) $$ [HF HO]
  · isplitr; · iexact He
    isplitl [HF] <;> iassumption
  iintro ⟨⟨Hout, Hmine⟩, Hv, HO⟩
  iapply (wpc_ret c)
  iapply Hk
  unfold pReady outDone
  isplitl [Hoth Hmine Hv]
  · isplitl [Hoth Hmine]
    · iapply (p_join c n)
      isplitl [Hoth]; · iexact Hoth
      rw [pMine_eq]
      iapply (anyAt_intro c (QF X0 D0 c n)); iexact Hmine
    iexact Hv
  isplitl [Hout] <;> iassumption

/-- Wait until the `y` neighbour's chunk `n` is stored. -/
theorem waitYst_ok {n n' f' : ℕ} (Q : PUnit → sProp 𝕄) :
    iprop(env X0 D0 K ∗ ytFly X0 D0 c n ∗ owesAny c (owed c n' f') ∗ (iprop(ytReady c n ∗ outYDone X0 D0 c n ∗ owesAny c (owed c n' f')) -∗ Q ⟨⟩))
      ⊢ wpc c (waitYst c n) Q := by
  unfold waitYst ytFly
  simp only [Prog.lift]
  iintro ⟨#He, HF, HO, Hk⟩
  iapply (wp_wait_copy X0 D0 K c (M := credit (outYS c n)) rfl (owed c n' f') (may_low c (low_yst n) n' f')) $$ [HF HO]
  · isplitr; · iexact He
    isplitl [HF] <;> iassumption
  iintro ⟨⟨Hout, Hyt⟩, Hv, HO⟩
  iapply (wpc_ret c)
  iapply Hk
  unfold ytReady outYDone
  isplitl [Hyt Hv]
  · isplitl [Hyt]
    · iapply (any_unsqueeze c squeezes_S1x1024x256_S1024x256)
      iapply (anyAt_intro c (OY X0 D0 c n)); iexact Hyt
    iexact Hv
  isplitl [Hout] <;> iassumption

/-! ## Waits that the first chunks leave out -/

/-- A step taken only under a condition, before the rest. -/
theorem wpc_opt {α : Type} {b : Prop} [Decidable b] (p : Code F PUnit) (k : Code F α) (Q : α → sProp 𝕄) :
    wpc c (if b then p >>= fun _ => k else k) Q = wpc c (if b then p else pure ⟨⟩) (fun _ => wpc c k Q) := by
  unfold wpc
  by_cases h : b
  · rw [if_pos h, if_pos h, wp_bind]
  · rw [if_neg h, if_neg h, ← wp_bind]; rfl

/-- The slot of chunk `n`: free from the start, or waited for. -/
theorem takeSx_ok {n n' f' : ℕ} (hn : n < 16) (Q : PUnit → sProp 𝕄) :
    iprop(env X0 D0 K ∗ sbFree c n ∗ fam (goneX c) 0 (n - 4) ∗ owesAny c (owed c n' f')
        ∗ (iprop(anyAt c (slotOf sbM n) ∗ fam (goneX c) 0 (n + 1 - 4) ∗ owesAny c (owed c n' f')) -∗ Q ⟨⟩))
      ⊢ wpc c (if 4 ≤ n then waitSx (n - 4) else pure ⟨⟩) Q := by
  unfold sbFree
  by_cases h : 4 ≤ n
  · rw [if_pos h, if_pos h]
    iintro ⟨#He, Hs, Hg, HO, Hk⟩
    iapply (waitSx_ok X0 D0 K c (n := n - 4) (n' := n') (f' := f') (by omega) Q)
    isplitr; · iexact He
    isplitl [Hs]; · iexact Hs
    isplitl [HO]; · iexact HO
    iintro ⟨Hs, Hg', HO⟩
    iapply Hk
    rw [slot_congr sbM (show (n - 4) % 4 = n % 4 by omega), show n + 1 - 4 = n - 4 + 1 by omega]
    isplitl [Hs]; · iexact Hs
    isplitl [Hg Hg']
    · iapply (fam_push _ (Nat.zero_le _)); isplitl [Hg] <;> iassumption
    iexact HO
  · rw [if_neg h, if_neg h, Prog.pure_eq_ret]
    iintro ⟨#He, Hs, Hg, HO, Hk⟩
    iapply (wpc_ret c)
    iapply Hk
    rw [show n + 1 - 4 = n - 4 by omega]
    isplitl [Hs]; · iexact Hs
    isplitl [Hg] <;> iassumption

/-- Before chunk `n`'s sum is staged, its slot comes back from the copy of chunk `n - 4`. -/
theorem takeSy_ok {n n' f' : ℕ} (hn : n < 16) (Q : PUnit → sProp 𝕄) :
    iprop(env X0 D0 K ∗ ybFree c n ∗ fam (goneY c) 0 (n - 4) ∗ owesAny c (owed c n' f')
        ∗ (iprop(anyAt c (slotOf ybM n) ∗ fam (goneY c) 0 (n + 1 - 4) ∗ owesAny c (owed c n' f')) -∗ Q ⟨⟩))
      ⊢ wpc c (if 4 ≤ n then waitSy (n - 4) else pure ⟨⟩) Q := by
  unfold ybFree
  by_cases h : 4 ≤ n
  · rw [if_pos h, if_pos h]
    iintro ⟨#He, Hs, Hg, HO, Hk⟩
    iapply (waitSy_ok X0 D0 K c (n := n - 4) (n' := n') (f' := f') (by omega) Q)
    isplitr; · iexact He
    isplitl [Hs]; · iexact Hs
    isplitl [HO]; · iexact HO
    iintro ⟨Hs, Hg', HO⟩
    iapply Hk
    rw [slot_congr ybM (show (n - 4) % 4 = n % 4 by omega), show n + 1 - 4 = n - 4 + 1 by omega]
    isplitl [Hs]; · iexact Hs
    isplitl [Hg Hg']
    · iapply (fam_push _ (Nat.zero_le _)); isplitl [Hg] <;> iassumption
    iexact HO
  · rw [if_neg h, if_neg h, Prog.pure_eq_ret]
    iintro ⟨#He, Hs, Hg, HO, Hk⟩
    iapply (wpc_ret c)
    iapply Hk
    rw [show n + 1 - 4 = n - 4 by omega]
    isplitl [Hs]; · iexact Hs
    isplitl [Hg] <;> iassumption

/-- Before chunk `n`'s product is formed, its buffer comes back from the store of chunk `n - 4`, which is then done. -/
theorem takeP_ok {n n' f' : ℕ} (Q : PUnit → sProp 𝕄) :
    iprop(env X0 D0 K ∗ pFree X0 D0 c n ∗ fam (outDone X0 D0 c) 0 (n - 4) ∗ owesAny c (owed c n' f')
        ∗ (iprop(pReady c n ∗ fam (outDone X0 D0 c) 0 (n + 1 - 4) ∗ owesAny c (owed c n' f')) -∗ Q ⟨⟩))
      ⊢ wpc c (if 4 ≤ n then waitSt c (n - 4) else pure ⟨⟩) Q := by
  unfold pFree
  by_cases h : 4 ≤ n
  · rw [if_pos h, if_pos h]
    iintro ⟨#He, Hs, Hg, HO, Hk⟩
    iapply (waitSt_ok X0 D0 K c (n := n - 4) (n' := n') (f' := f') Q)
    isplitr; · iexact He
    isplitl [Hs]; · iexact Hs
    isplitl [HO]; · iexact HO
    iintro ⟨Hs, Hg', HO⟩
    iapply Hk
    rw [show n + 1 - 4 = n - 4 + 1 by omega]
    isplitl [Hs]; · rw [pReady_congr c (show n % 4 = (n - 4) % 4 by omega)]; iexact Hs
    isplitl [Hg Hg']
    · iapply (fam_push _ (Nat.zero_le _)); isplitl [Hg] <;> iassumption
    iexact HO
  · rw [if_neg h, if_neg h, Prog.pure_eq_ret]
    iintro ⟨#He, Hs, Hg, HO, Hk⟩
    iapply (wpc_ret c)
    iapply Hk
    rw [show n + 1 - 4 = n - 4 by omega]
    isplitl [Hs]; · iexact Hs
    isplitl [Hg] <;> iassumption

/-- Before the neighbour's chunk `n` is widened, its slot comes back from the store of chunk `n - 4`, which is then done. -/
theorem takeYt_ok {n n' f' : ℕ} (Q : PUnit → sProp 𝕄) :
    iprop(env X0 D0 K ∗ ytFree X0 D0 c n ∗ fam (outYDone X0 D0 c) 0 (n - 4) ∗ owesAny c (owed c n' f')
        ∗ (iprop(ytReady c n ∗ fam (outYDone X0 D0 c) 0 (n + 1 - 4) ∗ owesAny c (owed c n' f')) -∗ Q ⟨⟩))
      ⊢ wpc c (if 4 ≤ n then waitYst c (n - 4) else pure ⟨⟩) Q := by
  unfold ytFree
  by_cases h : 4 ≤ n
  · rw [if_pos h, if_pos h]
    iintro ⟨#He, Hs, Hg, HO, Hk⟩
    iapply (waitYst_ok X0 D0 K c (n := n - 4) (n' := n') (f' := f') Q)
    isplitr; · iexact He
    isplitl [Hs]; · iexact Hs
    isplitl [HO]; · iexact HO
    iintro ⟨Hs, Hg', HO⟩
    iapply Hk
    rw [show n + 1 - 4 = n - 4 + 1 by omega]
    isplitl [Hs]; · rw [ytReady_congr c (show n % 4 = (n - 4) % 4 by omega)]; iexact Hs
    isplitl [Hg Hg']
    · iapply (fam_push _ (Nat.zero_le _)); isplitl [Hg] <;> iassumption
    iexact HO
  · rw [if_neg h, if_neg h, Prog.pure_eq_ret]
    iintro ⟨#He, Hs, Hg, HO, Hk⟩
    iapply (wpc_ret c)
    iapply Hk
    rw [show n + 1 - 4 = n - 4 by omega]
    isplitl [Hs]; · iexact Hs
    isplitl [Hg] <;> iassumption

/-! ## The loads of `dy` -/

/-- The copy of chunk `n` of `dy` is issued. -/
theorem startLoad_ok (n : ℕ) (Q : PUnit → sProp 𝕄) :
    iprop(owns (c : Thread nD τ) dyIn fullShare (D0 c) ∗ dyReady c n ∗ (dyFly D0 c n -∗ Q ⟨⟩)) ⊢ wpc c (startLoad c n) Q := by
  unfold startLoad dyReady
  simp only [Prog.lift]
  iintro ⟨Hdy, ⟨Hb, Hv⟩, Hk⟩
  ihave H := (owns_lend c (dyR c n) (fun _ => rfl)) $$ Hdy
  icases H with ⟨Hs, Hback⟩
  ihave Hb := (any_mono c fun X => owns_full c (m := dyB n) (r := fullR) (fun _ => rfl) full_univ) $$ Hb
  unfold anyAt
  icases Hb with ⟨%Y, Hb⟩
  iapply (wp_copy_local c (src := dyCols c n) (dst := dySt n) (by decide)) $$ [Hs Hb Hv]
  · isplitl [Hs]; · iexact Hs
    isplitl [Hb]; · iexact Hb
    iexact Hv
  iintro HF
  iapply (wpc_ret c)
  iapply Hk
  unfold dyFly
  isplitl [HF]; · iexact HF
  iexact Hback

/-- Chunk `n` of `dy` is taken, and the next one's copy issued. -/
theorem takeDy_ok {n f : ℕ} (hn : n < 16) (Q : PUnit → sProp 𝕄) :
    iprop(env X0 D0 K ∗ dyState D0 c n ∗ anyAt c dybM ∗ owesAny c (owed c n f)
        ∗ (iprop(dyState D0 c (n + 1) ∗ owns (c : Thread nD τ) dybM fullShare (k0_pay6 (DY D0 c n)) ∗ owesAny c (owed c n f)) -∗ Q ⟨⟩))
      ⊢ wpc c (takeDy c n) Q := by
  unfold takeDy dyState
  rw [if_pos hn]
  unfold dyFly
  simp only [Prog.lift, Prog.bind_op, Prog.bind_ret]
  iintro ⟨#He, ⟨⟨HF, Hback⟩, Hnext⟩, Hdyb, HO, Hk⟩
  iapply (wp_wait_copy X0 D0 K c (M := credit (dySt n)) rfl (owed c n f) (may_low c (low_dy n) n f)) $$ [HF HO]
  · isplitr; · iexact He
    isplitl [HF] <;> iassumption
  iintro ⟨⟨Hb, Hcols⟩, Hv, HO⟩
  ihave Hdy := Hback $$ Hcols
  iapply (wp_ld c (m := dyB n) (r := fullR) (fun _ => rfl)) $$ Hb
  iintro Hb
  iapply (wp_ld_skip_in c (fun _ => rfl)) $$ Hdyb
  iintro Hdyb
  iapply (wp_st_full c (m := dybM) (r := fullR) (fun _ => rfl) full_univ (w' := k0_pay6 (DY D0 c n)) (funext fun j => by rw [full_emb])) $$ Hdyb
  iintro Hdyb
  ihave Hb := (full_owns c (m := dyB n) (r := fullR) (fun _ => rfl) full_univ (X := DY D0 c n)) $$ [Hb]
  · rw [show (fun j => DY D0 c n (fullR.emb j)) = DY D0 c n from funext fun j => by rw [full_emb]]
    iexact Hb
  have hmod : (n + 1 + 1) % 2 = n % 2 := by omega
  by_cases h : n + 1 < 16
  · rw [if_pos h, if_pos h]
    iapply (startLoad_ok D0 c (n + 1) Q)
    isplitl [Hdy]; · iexact Hdy
    isplitl [Hnext]; · iexact Hnext
    iintro HF
    iapply Hk
    rw [dyReady_congr c hmod]
    isplitl [HF Hb Hv]
    · isplitl [HF]; · unfold dyFly; iexact HF
      unfold dyReady
      isplitl [Hb]
      · iapply (anyAt_intro c (DY D0 c n)); iexact Hb
      iexact Hv
    isplitl [Hdyb] <;> iassumption
  · rw [if_neg h, if_neg h, Prog.pure_eq_ret]
    iapply (wpc_ret c)
    iapply Hk
    rw [dyReady_congr c hmod]
    isplitl [Hb Hv Hdy Hnext]
    · isplitl [Hdy Hnext]
      · isplitl [Hdy] <;> iassumption
      unfold dyReady
      isplitl [Hb]
      · iapply (anyAt_intro c (DY D0 c n)); iexact Hb
      iexact Hv
    isplitl [Hdyb] <;> iassumption

/-! ## The product -/

/-- A load of the whole of the rounded `x` reads every element at its own place. -/
theorem xb_full (j : S2048x2048.Idx) : (Rect.unit (s := S2048x2048) ![0, 0] S2048x2048.size inb_S2048x2048_S2048x2048_0_0).emb j = j := funext fun a => Fin.ext (by
  rw [Rect.emb_apply]
  fin_cases a
  · show 0 + 1 * (j (0 : Fin 2)).val = _; rw [Nat.zero_add, Nat.one_mul]; rfl
  · show 0 + 1 * (j (1 : Fin 2)).val = _; rw [Nat.zero_add, Nat.one_mul]; rfl)

/-- Chunk `n`'s product, and the neighbour's rows of it sent. -/
theorem product_ok {n f : ℕ} (hn : n < 16) (Q : PUnit → sProp 𝕄) :
    iprop(env X0 D0 K ∗ owns (c : Thread nD τ) xbM fullShare (XB X0 c) ∗ owns (c : Thread nD τ) dybM fullShare (k0_pay6 (DY D0 c n))
        ∗ pReady c n ∗ sbFree c n ∗ fam (goneX c) 0 (n - 4) ∗ sendX c n ∗ owesAny c (owed c n f)
        ∗ (iprop(owns (c : Thread nD τ) xbM fullShare (XB X0 c) ∗ anyAt c dybM ∗ pMid X0 D0 c n ∗ sbFree c (n + 4) ∗ fam (goneX c) 0 (n + 1 - 4)
            ∗ owesAny c (owed c (n + 1) f)) -∗ Q ⟨⟩))
      ⊢ wpc c (product c n) Q := by
  unfold product pReady sendX
  simp only [Prog.lift, Prog.bind_op, Prog.bind_ret]
  iintro ⟨#He, Hxb, Hdyb, ⟨Hp, Hst⟩, Hsb, Hg, ⟨Ht, Ht', Hl, Hat⟩, HO, Hk⟩
  iapply (wp_ld_in c (m := xbM) (fun _ => rfl)) $$ Hxb
  iintro Hxb
  iapply (wp_ld_in c (m := dybM) (r := fullR) (fun _ => rfl)) $$ Hdyb
  iintro Hdyb
  iapply (wp_ld_skip_in c (fun _ => rfl)) $$ Hp
  iintro Hp
  iapply (wp_st_full c (m := pB n) (r := fullR) (fun _ => rfl) full_univ (w' := P X0 D0 c n) (funext fun j => by
    rw [full_emb]
    show k0_pay7 (fun j => XB X0 c ((Rect.unit (s := S2048x2048) ![0, 0] S2048x2048.size inb_S2048x2048_S2048x2048_0_0).emb j))
      (fun j => k0_pay6 (DY D0 c n) (fullR.emb j)) j = _
    exact congrFun (congrArg₂ k0_pay7 (funext fun j => congrArg (XB X0 c) (xb_full j)) (funext fun j => by rw [full_emb])) j)) $$ Hp
  iintro Hp
  rw [wpc_opt]
  iapply (takeSx_ok X0 D0 K c (n := n) (n' := n) (f' := f) hn)
  isplitr; · iexact He
  isplitl [Hsb]; · iexact Hsb
  isplitl [Hg]; · iexact Hg
  isplitl [HO]; · iexact HO
  iintro ⟨Hsb, Hg, HO⟩
  ihave Hp := (p_split c n (P X0 D0 c n)) $$ Hp
  icases Hp with ⟨Hoth, Hmine⟩
  iapply (wp_ld c (m := pB n) (r := otherR c) (fun _ => rfl)) $$ Hoth
  iintro Hoth
  iapply (wp_ld_skip c (m := sbM) (r := slotR n) (fun _ => rfl)) $$ Hsb
  iintro Hsb
  iapply (wp_st_any c (m := sbM) (r := slotR n) (fun _ => rfl)) $$ Hsb
  iintro Hsb
  ihave Hsb := (owns_squeeze c squeezes_S1x1024x256_S1024x256) $$ Hsb
  rw [owed_x c hn]
  iapply (wp_send_chunk X0 D0 K c (xPeer c) (0, ⟨n, hn⟩) (1, ⟨n, hn⟩) (sxSem n) (rxSem n) rfl rfl (src := sbS n) (dst := rxS n)
    (X := unstage (SBv X0 D0 c n)) (credit_rx n) .rfl (by
      show _ ⊢ owns (xPeer c : Thread nD τ) (rxS n) fullShare (RX X0 D0 (xPeer c) n)
      unfold RX; rw [xPeer_xPeer]) (owed c (n + 1) f)) $$ [Hsb Hl HO Ht Ht']
  · isplitr; · iexact He
    isplitl [Hsb]; · iexact Hsb
    isplitl [Hl]; · iexact Hl
    isplitl [HO]; · iexact HO
    isplitl [Ht] <;> iassumption
  iintro ⟨Hc, HO⟩
  iapply (wpc_ret c)
  iapply Hk
  isplitl [Hxb]; · iexact Hxb
  isplitl [Hdyb]; · iapply (anyAt_intro c (k0_pay6 (DY D0 c n))); iexact Hdyb
  isplitl [Hoth Hmine Hst]
  · unfold pMid
    isplitl [Hoth]; · iapply (anyAt_intro c _); iexact Hoth
    isplitl [Hmine]; · iexact Hmine
    iexact Hst
  isplitl [Hc Hat]
  · unfold sbFree busyX
    rw [if_pos (by omega), Nat.add_sub_cancel]
    isplitl [Hc] <;> iassumption
  isplitl [Hg] <;> iassumption

/-! ## The neighbour's rows -/

/-- Chunk `n` is finished: the neighbour's rows added, the sum sent along `y`, and its store issued. -/
theorem finish_ok {n f : ℕ} (hf : f < 16) (hn : f < n) (Q : PUnit → sProp 𝕄) :
    iprop(env X0 D0 K ∗ pMid X0 D0 c f ∗ awaitX c f ∗ ybFree c f ∗ fam (goneY c) 0 (f - 4) ∗ sendY c f ∗ outTodo c f ∗ owesAny c (owed c n f)
        ∗ (iprop(pFree X0 D0 c (f + 4) ∗ cameX c f ∗ ybFree c (f + 4) ∗ fam (goneY c) 0 (f + 1 - 4) ∗ owesAny c (owed c n (f + 1))) -∗ Q ⟨⟩))
      ⊢ wpc c (finish c f) Q := by
  unfold finish pMid awaitX sendY outTodo
  simp only [Prog.lift, Prog.bind_op, Prog.bind_ret]
  iintro ⟨#He, ⟨Hoth, Hmine, Hst⟩, ⟨Hcr, Hat⟩, Hyb, Hg, ⟨Ht, Ht', Hl, HatS⟩, Hout, HO, Hk⟩
  iapply (wp_wait_chunk X0 D0 K c (1, ⟨f, hf⟩) (rxSem f) rfl (credit_rx f) (owed c n f) (may_rx c hf hn (le_refl f))) $$ [Hcr Hat HO]
  · isplitr; · iexact He
    isplitl [Hcr]; · iexact Hcr
    isplitl [HO] <;> iassumption
  iintro ⟨Hrx, Hv, HO⟩
  ihave Hrx := (show pay X0 D0 c (some (1, ⟨f, hf⟩)) false ⊢ owns (c : Thread nD τ) (rxM.slice (colsR f) (fun _ => rfl)) fullShare (RX X0 D0 c f) from .rfl) $$ Hrx
  iapply (wp_ld c (m := pB f) (r := mineR c) (fun _ => rfl)) $$ Hmine
  iintro Hmine
  iapply (wp_ld c (m := rxM) (r := colsR f) (fun _ => rfl)) $$ Hrx
  iintro Hrx
  ihave Hmine := (anyAt_intro c _) $$ Hmine
  iapply (wp_ld_skip c (m := pB f) (r := mineR c) (fun _ => rfl)) $$ Hmine
  iintro Hmine
  iapply (wp_st_any c (m := pB f) (r := mineR c) (fun _ => rfl)) $$ Hmine
  iintro Hmine
  rw [wpc_opt]
  iapply (takeSy_ok X0 D0 K c (n := f) (n' := n) (f' := f) hf)
  isplitr; · iexact He
  isplitl [Hyb]; · iexact Hyb
  isplitl [Hg]; · iexact Hg
  isplitl [HO]; · iexact HO
  iintro ⟨Hyb, Hg, HO⟩
  iapply (wp_ld c (m := pB f) (r := mineR c) (fun _ => rfl)) $$ Hmine
  iintro Hmine
  iapply (wp_ld_skip c (m := ybM) (r := slotR f) (fun _ => rfl)) $$ Hyb
  iintro Hyb
  iapply (wp_st_any c (m := ybM) (r := slotR f) (fun _ => rfl)) $$ Hyb
  iintro Hyb
  ihave Hyb := (owns_squeeze c squeezes_S1x1024x256_S1024x256) $$ Hyb
  rw [owed_y c hf]
  iapply (wp_send_chunk X0 D0 K c (yPeer c) (2, ⟨f, hf⟩) (3, ⟨f, hf⟩) (sySem f) (rySem f) rfl rfl (src := ybS f) (dst := ryS f)
    (X := unstage (k0_pay13 (QF X0 D0 c f))) (credit_ry f) .rfl (by
      show _ ⊢ owns (yPeer c : Thread nD τ) (ryS f) fullShare (RY X0 D0 (yPeer c) f)
      unfold RY; rw [yPeer_yPeer]) (owed c n (f + 1))) $$ [Hyb Hl HO Ht Ht']
  · isplitr; · iexact He
    isplitl [Hyb]; · iexact Hyb
    isplitl [Hl]; · iexact Hl
    isplitl [HO]; · iexact HO
    isplitl [Ht] <;> iassumption
  iintro ⟨Hc, HO⟩
  ihave Hmine := (show owns (c : Thread nD τ) ((pB f).slice (mineR c) (fun _ => rfl)) fullShare (k0_pay12 (PM X0 D0 c f) (RX X0 D0 c f))
    ⊢ owns (c : Thread nD τ) (pMine c f) fullShare (QF X0 D0 c f) from by rw [pMine_eq]; exact .rfl) $$ Hmine
  unfold anyAt
  icases Hout with ⟨%Y, Hout⟩
  iapply (wp_copy_local c (src := pMine c f) (dst := outS c f) (by decide)) $$ [Hmine Hout Hst]
  · isplitl [Hmine]; · iexact Hmine
    isplitl [Hout]; · iexact Hout
    iexact Hst
  iintro HF
  iapply (wpc_ret c)
  iapply Hk
  isplitl [HF Hoth]
  · unfold pFree pFly anyAt
    rw [if_pos (by omega), Nat.add_sub_cancel]
    isplitl [HF] <;> iassumption
  isplitl [Hv Hrx]
  · unfold cameX
    isplitl [Hv]; · iexact Hv
    iapply (anyAt_intro c (RX X0 D0 c f)); iexact Hrx
  isplitl [Hc HatS]
  · unfold ybFree busyY
    rw [if_pos (by omega), Nat.add_sub_cancel]
    isplitl [Hc] <;> iassumption
  isplitl [Hg] <;> iassumption

/-- The `y` neighbour's chunk `s` is stored into the result. -/
theorem service_ok {n f s : ℕ} (hs : s < 16) (hn : s + 1 < n ∨ n = 16) (hf : s < f) (Q : PUnit → sProp 𝕄) :
    iprop(env X0 D0 K ∗ awaitY c s ∗ ytFree X0 D0 c s ∗ fam (outYDone X0 D0 c) 0 (s - 4) ∗ outYTodo c s ∗ owesAny c (owed c n f)
        ∗ (iprop(cameY c s ∗ ytFree X0 D0 c (s + 4) ∗ fam (outYDone X0 D0 c) 0 (s + 1 - 4) ∗ owesAny c (owed c n f)) -∗ Q ⟨⟩))
      ⊢ wpc c (service c s) Q := by
  unfold service awaitY outYTodo
  simp only [Prog.lift, Prog.bind_op, Prog.bind_ret]
  iintro ⟨#He, ⟨Hcr, Hat⟩, Hyt, Hg, Hout, HO, Hk⟩
  iapply (wp_wait_chunk X0 D0 K c (3, ⟨s, hs⟩) (rySem s) rfl (credit_ry s) (owed c n f) (may_ry c hs hn hf)) $$ [Hcr Hat HO]
  · isplitr; · iexact He
    isplitl [Hcr]; · iexact Hcr
    isplitl [HO] <;> iassumption
  iintro ⟨Hry, Hv, HO⟩
  ihave Hry := (show pay X0 D0 c (some (3, ⟨s, hs⟩)) false ⊢ owns (c : Thread nD τ) (ryM.slice (colsR s) (fun _ => rfl)) fullShare (RY X0 D0 c s) from .rfl) $$ Hry
  rw [wpc_opt]
  iapply (takeYt_ok X0 D0 K c (n := s) (n' := n) (f' := f))
  isplitr; · iexact He
  isplitl [Hyt]; · iexact Hyt
  isplitl [Hg]; · iexact Hg
  isplitl [HO]; · iexact HO
  unfold ytReady
  iintro ⟨⟨Hyt, Hst⟩, Hg, HO⟩
  iapply (wp_ld c (m := ryM) (r := colsR s) (fun _ => rfl)) $$ Hry
  iintro Hry
  iapply (wp_ld_skip c (m := ytM) (r := slotR s) (fun _ => rfl)) $$ Hyt
  iintro Hyt
  iapply (wp_st_any c (m := ytM) (r := slotR s) (fun _ => rfl)) $$ Hyt
  iintro Hyt
  ihave Hyt := (owns_squeeze c squeezes_S1x1024x256_S1024x256) $$ Hyt
  unfold anyAt
  icases Hout with ⟨%Y, Hout⟩
  iapply (wp_copy_local c (src := ytS s) (dst := outYS c s) (by decide)) $$ [Hyt Hout Hst]
  · isplitl [Hyt]; · iexact Hyt
    isplitl [Hout]; · iexact Hout
    iexact Hst
  iintro HF
  iapply (wpc_ret c)
  iapply Hk
  isplitl [Hv Hry]
  · unfold cameY
    isplitl [Hv]; · iexact Hv
    iapply (anyAt_intro c (RY X0 D0 c s)); iexact Hry
  isplitl [HF]
  · unfold ytFree ytFly
    rw [if_pos (by omega), Nat.add_sub_cancel]
    iexact HF
  isplitl [Hg] <;> iassumption

end Cert.KernelIdeal.Flow

end
-- ==== Proof.Run.lean ====
module

public import proofs.«01_k».proof.Proof.Chunk
public import Idealize.ShloMosaic.Lib.Pipeline.Value

@[expose] public section

set_option maxRecDepth 16384

/-! # The loops, and the whole body -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X0 : Dev nD → Vec F S2048x2048 .f32) (D0 : Dev nD → Vec F S2048x8192 .f32) (K : Dev nD × CI → ℕ) (c : Dev nD)

/-- One step, then the rest. -/
theorem wpc_bind {α β : Type} (p : Code F α) (k : α → Code F β) (Q : β → sProp 𝕄) :
    wpc c (p >>= k) Q = wpc c p (fun a => wpc c (k a) Q) := by
  unfold wpc; rw [wp_bind]

/-- A loop whose turn `n` takes `I n` to `I (n + 1)`. -/
theorem loop_ok (I : ℕ → sProp 𝕄) (f : ℕ → Code F PUnit) (hi : ℕ)
    (h : ∀ n, n < hi → ∀ Q : PUnit → sProp 𝕄, iprop(env X0 D0 K ∗ I n ∗ (I (n + 1) -∗ Q ⟨⟩)) ⊢ wpc c (f n) Q) (Q : PUnit → sProp 𝕄) :
    ∀ k n, n + k ≤ hi → iprop(env X0 D0 K ∗ I n ∗ (I (n + k) -∗ Q ⟨⟩)) ⊢ wpc c (loop f k n) Q
  | 0, n, _ => by
    unfold loop
    rw [Prog.pure_eq_ret]
    iintro ⟨-, H, Hk⟩
    iapply (wpc_ret c)
    iapply Hk; iexact H
  | k + 1, n, hk => by
    unfold loop
    rw [wpc_bind]
    iintro ⟨#He, H, Hk⟩
    iapply (h n (by omega))
    isplitr; · iexact He
    isplitl [H]; · iexact H
    iintro H
    iapply (loop_ok I f hi h Q k (n + 1) (by omega))
    isplitr; · iexact He
    isplitl [H]; · iexact H
    rw [show n + 1 + k = n + (k + 1) by omega]
    iexact Hk

/-! ## The state between two turns -/

/-- What the product of chunk `n` uses. -/
def stA (n : ℕ) : sProp 𝕄 :=
  iprop(owns (c : Thread nD τ) xbM fullShare (XB X0 c) ∗ anyAt c dybM ∗ dyState D0 c n ∗ fam (sendX c) n 16 ∗ fam (goneX c) 0 (n - 4) ∗ fam (sbFree c) n (n + 4))
/-- The product buffers, after `n` products, `f` of which are finished. -/
def stP (n f : ℕ) : sProp 𝕄 := iprop(fam (pMid X0 D0 c) f n ∗ fam (pFree X0 D0 c) n (f + 4) ∗ fam (outDone X0 D0 c) 0 (n - 4))
/-- What finishing chunk `f` uses. -/
def stB (f : ℕ) : sProp 𝕄 :=
  iprop(fam (sendY c) f 16 ∗ fam (goneY c) 0 (f - 4) ∗ fam (ybFree c) f (f + 4) ∗ fam (awaitX c) f 16 ∗ fam (cameX c) 0 f ∗ fam (outTodo c) f 16)
/-- What storing the neighbour's chunk `s` uses. -/
def stC (s : ℕ) : sProp 𝕄 :=
  iprop(fam (awaitY c) s 16 ∗ fam (cameY c) 0 s ∗ fam (ytFree X0 D0 c) s (s + 4) ∗ fam (outYTodo c) s 16 ∗ fam (outYDone X0 D0 c) 0 (s - 4))

/-- Between the turns. -/
def st (n : ℕ) : sProp 𝕄 :=
  iprop(stA X0 D0 c n ∗ stP X0 D0 c n (n - 1) ∗ stB c (n - 1) ∗ stC X0 D0 c (n - 3) ∗ owesAny c (owed c n (n - 1)))

/-- Chunk `f` is finished. -/
theorem finish_st {n f : ℕ} (hf : f < 16) (hn : f < n) (hn' : n ≤ f + 4) (Q : PUnit → sProp 𝕄) :
    iprop(env X0 D0 K ∗ stP X0 D0 c n f ∗ stB c f ∗ owesAny c (owed c n f)
        ∗ (iprop(stP X0 D0 c n (f + 1) ∗ stB c (f + 1) ∗ owesAny c (owed c n (f + 1))) -∗ Q ⟨⟩))
      ⊢ wpc c (finish c f) Q := by
  unfold stP stB
  iintro ⟨#He, ⟨Hpm, Hpf, Hod⟩, ⟨Hsy, Hgy, Hyb, Hax, Hcx, Hot⟩, HO, Hk⟩
  ihave Hpm := (fam_pop _ hn) $$ Hpm; icases Hpm with ⟨Hpm0, Hpm⟩
  ihave Hsy := (fam_pop _ hf) $$ Hsy; icases Hsy with ⟨Hsy0, Hsy⟩
  ihave Hyb := (fam_pop _ (show f < f + 4 by omega)) $$ Hyb; icases Hyb with ⟨Hyb0, Hyb⟩
  ihave Hax := (fam_pop _ hf) $$ Hax; icases Hax with ⟨Hax0, Hax⟩
  ihave Hot := (fam_pop _ hf) $$ Hot; icases Hot with ⟨Hot0, Hot⟩
  iapply (finish_ok X0 D0 K c hf hn)
  isplitr; · iexact He
  isplitl [Hpm0]; · iexact Hpm0
  isplitl [Hax0]; · iexact Hax0
  isplitl [Hyb0]; · iexact Hyb0
  isplitl [Hgy]; · iexact Hgy
  isplitl [Hsy0]; · iexact Hsy0
  isplitl [Hot0]; · iexact Hot0
  isplitl [HO]; · iexact HO
  iintro ⟨Hpf0, Hcx0, Hyb0, Hgy, HO⟩
  iapply Hk
  isplitl [Hpm Hpf Hpf0 Hod]
  · isplitl [Hpm]; · iexact Hpm
    isplitl [Hpf Hpf0]
    · rw [show f + 1 + 4 = f + 4 + 1 by omega]
      iapply (fam_push _ hn'); isplitl [Hpf] <;> iassumption
    iexact Hod
  isplitl [Hsy Hgy Hyb Hyb0 Hax Hcx Hcx0 Hot]
  · isplitl [Hsy]; · iexact Hsy
    isplitl [Hgy]; · iexact Hgy
    isplitl [Hyb Hyb0]
    · rw [show f + 1 + 4 = f + 4 + 1 by omega]
      iapply (fam_push _ (show f + 1 ≤ f + 4 by omega)); isplitl [Hyb] <;> iassumption
    isplitl [Hax]; · iexact Hax
    isplitl [Hcx Hcx0]
    · iapply (fam_push _ (Nat.zero_le _)); isplitl [Hcx] <;> iassumption
    iexact Hot
  iexact HO

/-- The neighbour's chunk `s` is stored. -/
theorem service_st {n f s : ℕ} (hs : s < 16) (hn : s + 1 < n ∨ n = 16) (hf : s < f) (Q : PUnit → sProp 𝕄) :
    iprop(env X0 D0 K ∗ stC X0 D0 c s ∗ owesAny c (owed c n f)
        ∗ (iprop(stC X0 D0 c (s + 1) ∗ owesAny c (owed c n f)) -∗ Q ⟨⟩))
      ⊢ wpc c (service c s) Q := by
  unfold stC
  iintro ⟨#He, ⟨Hay, Hcy, Hyt, Hot, Hod⟩, HO, Hk⟩
  ihave Hay := (fam_pop _ hs) $$ Hay; icases Hay with ⟨Hay0, Hay⟩
  ihave Hyt := (fam_pop _ (show s < s + 4 by omega)) $$ Hyt; icases Hyt with ⟨Hyt0, Hyt⟩
  ihave Hot := (fam_pop _ hs) $$ Hot; icases Hot with ⟨Hot0, Hot⟩
  iapply (service_ok X0 D0 K c hs hn hf)
  isplitr; · iexact He
  isplitl [Hay0]; · iexact Hay0
  isplitl [Hyt0]; · iexact Hyt0
  isplitl [Hod]; · iexact Hod
  isplitl [Hot0]; · iexact Hot0
  isplitl [HO]; · iexact HO
  iintro ⟨Hcy0, Hyt0, Hod, HO⟩
  iapply Hk
  isplitl [Hay Hcy Hcy0 Hyt Hyt0 Hot Hod]
  · isplitl [Hay]; · iexact Hay
    isplitl [Hcy Hcy0]
    · iapply (fam_push _ (Nat.zero_le _)); isplitl [Hcy] <;> iassumption
    isplitl [Hyt Hyt0]
    · rw [show s + 1 + 4 = s + 4 + 1 by omega]
      iapply (fam_push _ (show s + 1 ≤ s + 4 by omega)); isplitl [Hyt] <;> iassumption
    isplitl [Hot] <;> iassumption
  iexact HO

/-- The turn's finish, from the second turn on. -/
theorem finish_opt {n : ℕ} (hn : n < 16) (Q : PUnit → sProp 𝕄) :
    iprop(env X0 D0 K ∗ stP X0 D0 c (n + 1) (n - 1) ∗ stB c (n - 1) ∗ owesAny c (owed c (n + 1) (n - 1))
        ∗ (iprop(stP X0 D0 c (n + 1) n ∗ stB c n ∗ owesAny c (owed c (n + 1) n)) -∗ Q ⟨⟩))
      ⊢ wpc c (if 1 ≤ n then finish c (n - 1) else pure ⟨⟩) Q := by
  by_cases h : 1 ≤ n
  · rw [if_pos h]
    have hk := finish_st X0 D0 K c (n := n + 1) (f := n - 1) (by omega) (by omega) (by omega) Q
    rw [show n - 1 + 1 = n by omega] at hk
    exact hk
  · rw [if_neg h, Prog.pure_eq_ret, show n - 1 = n by omega]
    iintro ⟨-, HP, HB, HO, Hk⟩
    iapply (wpc_ret c)
    iapply Hk
    isplitl [HP]; · iexact HP
    isplitl [HB] <;> iassumption

/-- The turn's store of the neighbour's chunk, from the fourth turn on. -/
theorem service_opt {n : ℕ} (hn : n < 16) (Q : PUnit → sProp 𝕄) :
    iprop(env X0 D0 K ∗ stC X0 D0 c (n - 3) ∗ owesAny c (owed c (n + 1) n)
        ∗ (iprop(stC X0 D0 c (n + 1 - 3) ∗ owesAny c (owed c (n + 1) n)) -∗ Q ⟨⟩))
      ⊢ wpc c (if 3 ≤ n then service c (n - 3) else pure ⟨⟩) Q := by
  by_cases h : 3 ≤ n
  · rw [if_pos h]
    have hk := service_st X0 D0 K c (n := n + 1) (f := n) (s := n - 3) (by omega) (by omega) (by omega) Q
    rw [show n - 3 + 1 = n + 1 - 3 by omega] at hk
    exact hk
  · rw [if_neg h, Prog.pure_eq_ret, show n + 1 - 3 = n - 3 by omega]
    iintro ⟨-, HC, HO, Hk⟩
    iapply (wpc_ret c)
    iapply Hk
    isplitl [HC] <;> iassumption

/-- One turn of the loop. -/
theorem chunk_ok (n : ℕ) (hn : n < 16) (Q : PUnit → sProp 𝕄) :
    iprop(env X0 D0 K ∗ st X0 D0 c n ∗ (st X0 D0 c (n + 1) -∗ Q ⟨⟩)) ⊢ wpc c (chunk c n) Q := by
  unfold chunk st stA
  rw [wpc_bind, show n + 1 - 1 = n by omega]
  iintro ⟨#He, ⟨⟨Hxb, Hdyb, Hdy, Hsx, Hgx, Hsb⟩, HP, HB, HC, HO⟩, Hk⟩
  ihave HP := (show stP X0 D0 c n (n - 1) ⊢ iprop(fam (pMid X0 D0 c) (n - 1) n ∗ fam (pFree X0 D0 c) n (n - 1 + 4) ∗ fam (outDone X0 D0 c) 0 (n - 4)) from .rfl) $$ HP
  icases HP with ⟨Hpm, Hpf, Hod⟩
  ihave Hpf := (fam_pop _ (show n < n - 1 + 4 by omega)) $$ Hpf; icases Hpf with ⟨Hpf0, Hpf⟩
  ihave Hsx := (fam_pop _ hn) $$ Hsx; icases Hsx with ⟨Hsx0, Hsx⟩
  ihave Hsb := (fam_pop _ (show n < n + 4 by omega)) $$ Hsb; icases Hsb with ⟨Hsb0, Hsb⟩
  iapply (takeDy_ok X0 D0 K c hn)
  isplitr; · iexact He
  isplitl [Hdy]; · iexact Hdy
  isplitl [Hdyb]; · iexact Hdyb
  isplitl [HO]; · iexact HO
  iintro ⟨Hdy, Hdyb, HO⟩
  rw [wpc_opt]
  iapply (takeP_ok X0 D0 K c)
  isplitr; · iexact He
  isplitl [Hpf0]; · iexact Hpf0
  isplitl [Hod]; · iexact Hod
  isplitl [HO]; · iexact HO
  iintro ⟨Hp, Hod, HO⟩
  rw [wpc_bind]
  iapply (product_ok X0 D0 K c hn)
  isplitr; · iexact He
  isplitl [Hxb]; · iexact Hxb
  isplitl [Hdyb]; · iexact Hdyb
  isplitl [Hp]; · iexact Hp
  isplitl [Hsb0]; · iexact Hsb0
  isplitl [Hgx]; · iexact Hgx
  isplitl [Hsx0]; · iexact Hsx0
  isplitl [HO]; · iexact HO
  iintro ⟨Hxb, Hdyb, Hpm0, Hsb0, Hgx, HO⟩
  rw [wpc_opt]
  iapply (finish_opt X0 D0 K c hn)
  isplitr; · iexact He
  isplitl [Hpm Hpm0 Hpf Hod]
  · unfold stP
    isplitl [Hpm Hpm0]
    · iapply (fam_push _ (show n - 1 ≤ n by omega)); isplitl [Hpm] <;> iassumption
    isplitl [Hpf] <;> iassumption
  isplitl [HB]; · iexact HB
  isplitl [HO]; · iexact HO
  iintro ⟨HP, HB, HO⟩
  iapply (service_opt X0 D0 K c hn)
  isplitr; · iexact He
  isplitl [HC]; · iexact HC
  isplitl [HO]; · iexact HO
  iintro ⟨HC, HO⟩
  iapply Hk
  isplitl [Hxb Hdyb Hdy Hsx Hgx Hsb Hsb0]
  · isplitl [Hxb]; · iexact Hxb
    isplitl [Hdyb]; · iexact Hdyb
    isplitl [Hdy]; · iexact Hdy
    isplitl [Hsx]; · iexact Hsx
    isplitl [Hgx]; · iexact Hgx
    rw [show n + 1 + 4 = n + 4 + 1 by omega]
    iapply (fam_push _ (show n + 1 ≤ n + 4 by omega)); isplitl [Hsb] <;> iassumption
  isplitl [HP]; · iexact HP
  isplitl [HB]; · iexact HB
  isplitl [HC] <;> iassumption

/-! ## The last waits -/

/-- Before the last waits of chunk `d`. -/
def stD (d : ℕ) : sProp 𝕄 :=
  iprop((fam (sbFree c) (d + 4) 20 ∗ fam (goneX c) 0 d ∗ fam (fun n => anyAt c (slotOf sbM n)) 0 (d - 12))
    ∗ (fam (ybFree c) (d + 4) 20 ∗ fam (goneY c) 0 d ∗ fam (fun n => anyAt c (slotOf ybM n)) 0 (d - 12))
    ∗ (fam (pFree X0 D0 c) (d + 4) 20 ∗ fam (outDone X0 D0 c) 0 d ∗ fam (pReady c) 0 (d - 12))
    ∗ (fam (ytFree X0 D0 c) (d + 4) 20 ∗ fam (outYDone X0 D0 c) 0 d ∗ fam (ytReady c) 0 (d - 12))
    ∗ owesAny c (owed c 16 16))

/-- The last waits: chunk `d` has left both ways and its two stores are done. -/
theorem drain_ok (d : ℕ) (hd : 12 ≤ d) (hd' : d < 16) (Q : PUnit → sProp 𝕄) :
    iprop(env X0 D0 K ∗ stD X0 D0 c d ∗ (stD X0 D0 c (d + 1) -∗ Q ⟨⟩)) ⊢ wpc c (drain c d) Q := by
  unfold drain stD
  rw [wpc_bind, show d + 1 - 12 = d - 12 + 1 by omega, show d + 1 + 4 = d + 4 + 1 by omega]
  iintro ⟨#He, ⟨⟨Hsb, Hgx, Hs⟩, ⟨Hyb, Hgy, Hy⟩, ⟨Hpf, Hod, Hp⟩, ⟨Htf, Hoy, Ht⟩, HO⟩, Hk⟩
  have h4 : d + 4 < 20 := by omega
  ihave Hsb := (fam_pop _ h4) $$ Hsb; icases Hsb with ⟨Hsb0, Hsb⟩
  ihave Hyb := (fam_pop _ h4) $$ Hyb; icases Hyb with ⟨Hyb0, Hyb⟩
  ihave Hpf := (fam_pop _ h4) $$ Hpf; icases Hpf with ⟨Hpf0, Hpf⟩
  ihave Htf := (fam_pop _ h4) $$ Htf; icases Htf with ⟨Htf0, Htf⟩
  have h0 : 4 ≤ d + 4 := by omega
  iapply (waitSx_ok X0 D0 K c (n := d) (n' := 16) (f' := 16) hd')
  isplitr; · iexact He
  isplitl [Hsb0]; · iapply (show sbFree c (d + 4) ⊢ (busyX c d : sProp 𝕄) from by unfold sbFree; rw [if_pos h0, Nat.add_sub_cancel]); iexact Hsb0
  isplitl [HO]; · iexact HO
  iintro ⟨Hs0, Hgx0, HO⟩
  rw [wpc_bind]
  iapply (waitSy_ok X0 D0 K c (n := d) (n' := 16) (f' := 16) hd')
  isplitr; · iexact He
  isplitl [Hyb0]; · iapply (show ybFree c (d + 4) ⊢ (busyY c d : sProp 𝕄) from by unfold ybFree; rw [if_pos h0, Nat.add_sub_cancel]); iexact Hyb0
  isplitl [HO]; · iexact HO
  iintro ⟨Hy0, Hgy0, HO⟩
  rw [wpc_bind]
  iapply (waitSt_ok X0 D0 K c (n := d) (n' := 16) (f' := 16))
  isplitr; · iexact He
  isplitl [Hpf0]; · iapply (show pFree X0 D0 c (d + 4) ⊢ (pFly X0 D0 c d : sProp 𝕄) from by unfold pFree; rw [if_pos h0, Nat.add_sub_cancel]); iexact Hpf0
  isplitl [HO]; · iexact HO
  iintro ⟨Hp0, Hod0, HO⟩
  iapply (waitYst_ok X0 D0 K c (n := d) (n' := 16) (f' := 16))
  isplitr; · iexact He
  isplitl [Htf0]; · iapply (show ytFree X0 D0 c (d + 4) ⊢ (ytFly X0 D0 c d : sProp 𝕄) from by unfold ytFree; rw [if_pos h0, Nat.add_sub_cancel]); iexact Htf0
  isplitl [HO]; · iexact HO
  iintro ⟨Ht0, Hoy0, HO⟩
  iapply Hk
  have hm : (d - 12) % 4 = d % 4 := by omega
  isplitl [Hsb Hgx Hgx0 Hs Hs0]
  · isplitl [Hsb]; · iexact Hsb
    isplitl [Hgx Hgx0]; · iapply (fam_push _ (Nat.zero_le _)); isplitl [Hgx] <;> iassumption
    iapply (fam_push _ (Nat.zero_le _)); isplitl [Hs]; · iexact Hs
    rw [slot_congr sbM hm]; iexact Hs0
  isplitl [Hyb Hgy Hgy0 Hy Hy0]
  · isplitl [Hyb]; · iexact Hyb
    isplitl [Hgy Hgy0]; · iapply (fam_push _ (Nat.zero_le _)); isplitl [Hgy] <;> iassumption
    iapply (fam_push _ (Nat.zero_le _)); isplitl [Hy]; · iexact Hy
    rw [slot_congr ybM hm]; iexact Hy0
  isplitl [Hpf Hod Hod0 Hp Hp0]
  · isplitl [Hpf]; · iexact Hpf
    isplitl [Hod Hod0]; · iapply (fam_push _ (Nat.zero_le _)); isplitl [Hod] <;> iassumption
    iapply (fam_push _ (Nat.zero_le _)); isplitl [Hp]; · iexact Hp
    rw [pReady_congr c hm]; iexact Hp0
  isplitl [Htf Hoy Hoy0 Ht Ht0]
  · isplitl [Htf]; · iexact Htf
    isplitl [Hoy Hoy0]; · iapply (fam_push _ (Nat.zero_le _)); isplitl [Hoy] <;> iassumption
    iapply (fam_push _ (Nat.zero_le _)); isplitl [Ht]; · iexact Ht
    rw [ytReady_congr c hm]; iexact Ht0
  iexact HO

/-! ## The slabs of `x` -/

/-- The copy of slab `i` is issued. -/
theorem startX_ok (i : ℕ) (hi : i < 4) (Q : PUnit → sProp 𝕄) :
    iprop(xReady c i ∗ xRows X0 c i ∗ (xNext X0 c i -∗ Q ⟨⟩)) ⊢ wpc c (startX i) Q := by
  unfold startX xReady xRows xNext
  rw [if_pos hi]
  simp only [Prog.lift]
  iintro ⟨⟨Hb, Hv⟩, Hx, Hk⟩
  unfold anyAt
  icases Hb with ⟨%Y, Hb⟩
  iapply (wp_copy_local c (src := xSlab i) (dst := xlB i) (by decide)) $$ [Hb Hx Hv]
  · isplitl [Hx]; · iexact Hx
    isplitl [Hb] <;> iassumption
  iintro HF
  iapply (wpc_ret c)
  iapply Hk
  unfold xFly
  iexact HF

/-- Before slab `i` is rounded. -/
def stX (i : ℕ) : sProp 𝕄 :=
  iprop(xNext X0 c i ∗ xNext X0 c (i + 1) ∗ fam (xRows X0 c) (i + 2) 4 ∗ fam (xRows X0 c) 0 i ∗ fam (xbTodo c) i 4 ∗ fam (xbDone X0 c) 0 i ∗ owesAny c (O₀ c))

/-- A load of a whole slab buffer reads every element at its own place. -/
theorem xl_full (j : S512x2048.Idx) : (Rect.unit (s := S512x2048) ![0, 0] S512x2048.size inb_S512x2048_S512x2048_0_0).emb j = j := funext fun a => Fin.ext (by
  rw [Rect.emb_apply]
  fin_cases a
  · show 0 + 1 * (j (0 : Fin 2)).val = _; rw [Nat.zero_add, Nat.one_mul]; rfl
  · show 0 + 1 * (j (1 : Fin 2)).val = _; rw [Nat.zero_add, Nat.one_mul]; rfl)

/-- Rounding a slab is rounding `x`. -/
theorem slab_value (i : ℕ) (v : Vec F S512x2048 .f32) (h : ∀ j, v j = XS X0 c i j) : k0_pay3 v = fun j => XB X0 c ((slabR i).emb j) := by
  rw [show v = XS X0 c i from funext h]
  exact (shapeCast_self (truncf .bf16 (XS X0 c i) bitsLt_bf16_f32) _).trans rfl

/-- One slab of `x` is rounded, and the copy of the slab after the next is started. -/
theorem slab_ok (i : ℕ) (hi : i < 4) (Q : PUnit → sProp 𝕄) :
    iprop(env X0 D0 K ∗ stX X0 c i ∗ (stX X0 c (i + 1) -∗ Q ⟨⟩)) ⊢ wpc c (slab i) Q := by
  unfold slab stX
  simp only [Prog.lift, Prog.bind_op, Prog.bind_ret]
  iintro ⟨#He, ⟨Hx, Hn, Hto, Hrows, Hxb, Hdone, HO⟩, Hk⟩
  ihave Hx := (show xNext X0 c i ⊢ (xFly X0 c i : sProp 𝕄) from by unfold xNext; rw [if_pos hi]) $$ Hx
  ihave Hxb := (fam_pop _ hi) $$ Hxb; icases Hxb with ⟨Hxb0, Hxb⟩
  unfold xFly
  iapply (wp_wait_copy X0 D0 K c (M := credit (xlB i)) rfl (O₀ c) (may_low₀ c (low_x i))) $$ [Hx HO]
  · isplitr; · iexact He
    isplitl [Hx] <;> iassumption
  iintro ⟨⟨Hb, Hrow⟩, Hv, HO⟩
  iapply (wp_ld_in c (m := xlB i) (fun _ => rfl)) $$ Hb
  iintro Hb
  unfold xbTodo
  iapply (wp_ld_skip c (m := xbM) (r := slabR i) (fun _ => rfl)) $$ Hxb0
  iintro Hxb0
  iapply (wp_st_as c (m := xbM) (r := slabR i) (fun _ => rfl) (slab_value X0 c i _ fun j => congrArg (XS X0 c i) (xl_full j))) $$ Hxb0
  iintro Hxb0
  have hX : xReady c i = (xReady c (i + 2) : sProp 𝕄) := xReady_congr c (by omega)
  ihave Hr := (show iprop(owns (c : Thread nD τ) (xlB i) fullShare (XS X0 c i) ∗ semVal ((c : Thread nD τ), .dma (xSem i)) 0) ⊢ (xReady c (i + 2) : sProp 𝕄) from by
    rw [← hX]; unfold xReady
    iintro ⟨H, Hv⟩
    isplitl [H]; · iapply (anyAt_intro c _); iexact H
    iexact Hv) $$ [Hb Hv]
  · isplitl [Hb] <;> iassumption
  ihave Hxb0 := (show owns (c : Thread nD τ) (xbM.slice (slabR i) (fun _ => rfl)) fullShare (fun j => XB X0 c ((slabR i).emb j)) ⊢ (xbDone X0 c i : sProp 𝕄) from .rfl) $$ Hxb0
  ihave Hdone := (fam_push (xbDone X0 c) (Nat.zero_le i)) $$ [Hdone Hxb0]
  · isplitl [Hdone] <;> iassumption
  ihave Hrow := (show owns (c : Thread nD τ) (xSlab i) fullShare (XS X0 c i) ⊢ (xRows X0 c i : sProp 𝕄) from .rfl) $$ Hrow
  ihave Hrows := (fam_push (xRows X0 c) (Nat.zero_le i)) $$ [Hrows Hrow]
  · isplitl [Hrows] <;> iassumption
  iapply (show iprop(xReady c (i + 2) ∗ fam (xRows X0 c) (i + 2) 4 ∗ (iprop(xNext X0 c (i + 2) ∗ fam (xRows X0 c) (i + 1 + 2) 4) -∗ Q ⟨⟩))
      ⊢ wpc c (if i + 2 < 4 then startX (i + 2) else pure ⟨⟩) Q from by
    by_cases h : i + 2 < 4
    · rw [if_pos h]
      iintro ⟨Hr, Hto, Hk⟩
      ihave Hto := (fam_pop _ h) $$ Hto; icases Hto with ⟨Hto0, Hto⟩
      iapply (startX_ok X0 c (i + 2) h)
      isplitl [Hr]; · iexact Hr
      isplitl [Hto0]; · iexact Hto0
      iintro Hn
      iapply Hk
      rw [show i + 1 + 2 = i + 2 + 1 by omega]
      isplitl [Hn] <;> iassumption
    · rw [if_neg h, Prog.pure_eq_ret]
      iintro ⟨Hr, Hto, Hk⟩
      iapply (wpc_ret c)
      iapply Hk
      isplitl [Hr]
      · unfold xNext; rw [if_neg h]; iexact Hr
      iapply (show (emp : sProp 𝕄) ⊢ fam (xRows X0 c) (i + 1 + 2) 4 from by
        unfold fam; rw [Finset.Ico_eq_empty (by omega), bigSep_empty]; exact .rfl)
      iempintro)
  isplitl [Hr]; · iexact Hr
  isplitl [Hto]; · iexact Hto
  iintro ⟨Hn', Hto⟩
  iapply Hk
  isplitl [Hn]; · iexact Hn
  isplitl [Hn']; · iexact Hn'
  isplitl [Hto]; · iexact Hto
  isplitl [Hrows]; · iexact Hrows
  isplitl [Hxb]; · iexact Hxb
  isplitl [Hdone] <;> iassumption

/-! ## The handshake -/

/-- The barrier is the enumeration's `none`. -/
theorem kcell_bar (c : Dev nD) : kcell (c, none) = ((c : Thread nD τ), .reg barSem) := rfl

/-- The two signals and the wait for two units: this device gives its landing buffers away and receives its neighbours'. -/
theorem handshake_ok (Q : PUnit → sProp 𝕄) :
    iprop(env X0 D0 K ∗ fam (fun n => anyAt c (rxS n)) 0 16 ∗ fam (fun n => anyAt c (ryS n)) 0 16
        ∗ dutyTok ER (cBar (xPeer c)) 0 false ∗ dutyTok ER (cBar (yPeer c)) 0 true ∗ cred (tallyAt (cBar c) () 2) ∗ atPos ER (cBar c) 0 ∅ 0
        ∗ owesAny c (O₀ c)
        ∗ (iprop(fam (fun n => anyAt (xPeer c) (rxS n)) 0 16 ∗ fam (fun n => anyAt (yPeer c) (ryS n)) 0 16 ∗ semVal (cBar c) 0
            ∗ owesAny c (owed c 0 0)) -∗ Q ⟨⟩))
      ⊢ wpc c (handshake c) Q := by
  unfold handshake
  simp only [semSignalWord, semWaitWord, Prog.lift, Prog.bind_op, Prog.bind_ret, Prog.pure_eq_ret]
  unfold owesAny
  iintro ⟨#He, Hrx, Hry, Htx, Hty, Hc, Hat, ⟨%W, HO⟩, Hk⟩
  iapply (Rounds.wp_signal 𝒱₀ ER (Rd X0 D0) (c : Thread nD τ) none (dst := (xPeer c : Thread nD τ)) (κ := K (xPeer c, none))
      (d := false) (by rw [← kcell_bar, duties_bar]; exact Finset.mem_univ _) ((amount_bar X0 D0 (xPeer c) false).trans (by decide)) ()
      (owed c 0 0 + tallyAt (cBar (yPeer c)) () 1) rfl) $$ [HO Htx Hrx]
  · isplitr; · iapply (env_inv X0 D0 K (xPeer c, none)); iexact He
    isplitl [HO]; · iexact HO
    isplitl [Htx]; · iexact Htx
    isplitl [Hrx]
    · rw [← kcell_bar]
      iapply (show fam (fun n => anyAt c (rxS n)) 0 16 ⊢ (Rd X0 D0).payload (kcell (xPeer c, none)) 0 false from by
        rw [payload_eq]
        show _ ⊢ fam (fun n => anyAt (xPeer (xPeer c)) (rxS n)) 0 16
        rw [xPeer_xPeer])
      iexact Hrx
    iapply (env_reached X0 D0 K (xPeer c, none)); iexact He
  iintro HO
  iapply (Rounds.wp_signal 𝒱₀ ER (Rd X0 D0) (c : Thread nD τ) none (dst := (yPeer c : Thread nD τ)) (κ := K (yPeer c, none))
      (d := true) (by rw [← kcell_bar, duties_bar]; exact Finset.mem_univ _) ((amount_bar X0 D0 (yPeer c) true).trans (by decide)) ()
      (owed c 0 0) rfl) $$ [HO Hty Hry]
  · isplitr; · iapply (env_inv X0 D0 K (yPeer c, none)); iexact He
    isplitl [HO]; · iexact HO
    isplitl [Hty]; · iexact Hty
    isplitl [Hry]
    · rw [← kcell_bar]
      iapply (show fam (fun n => anyAt c (ryS n)) 0 16 ⊢ (Rd X0 D0).payload (kcell (yPeer c, none)) 0 true from by
        rw [payload_eq]
        show _ ⊢ fam (fun n => anyAt (yPeer (yPeer c)) (ryS n)) 0 16
        rw [yPeer_yPeer])
      iexact Hry
    iapply (env_reached X0 D0 K (yPeer c, none)); iexact He
  iintro HO
  iapply (Rounds.wp_wait_rest_token 𝒱₀ ER (Rd X0 D0) (c : Thread nD τ) none (κ := K (c, none))
      (wpE_semWait_eq 𝒱₀ (c : Thread nD τ) none Set.univ) (Set.mem_univ _) () (O := owed c 0 0) (W := W) (R := 0) (m := 0) (T := ∅)
      (by rw [Nat.zero_add]; exact ((expect_bar X0 D0 c).trans (by decide)).symm)) $$ [Hc HO Hat]
  · isplitr; · iapply (env_inv X0 D0 K (c, none)); iexact He
    isplitl [Hc]; · iexact Hc
    isplitl [HO]; · iexact HO
    isplitr; · iapply (may_bar c); iapply (env_lev X0 D0 K); iexact He
    iexact Hat
  iintro ⟨HO, Hat, -, Hpay⟩
  imod (Rounds.cell_close ER (Rd X0 D0) (Set.mem_univ (K (c, none))) (fun h => h) (R := 0 + 1) (duties_later X0 D0 (kcell (c, none)))) $$ [Hat] with Hz
  · isplitr; · iapply (env_inv X0 D0 K (c, none)); iexact He
    iexact Hat
  rw [← kcell_bar]
  ihave Hpay := (Entails.of_eq (rest_bar X0 D0 c)) $$ Hpay
  icases Hpay with ⟨Hx, Hy⟩
  ihave Hx := (show pay X0 D0 c none false ⊢ fam (fun n => anyAt (xPeer c) (rxS n)) 0 16 from .rfl) $$ Hx
  ihave Hy := (show pay X0 D0 c none true ⊢ fam (fun n => anyAt (yPeer c) (ryS n)) 0 16 from .rfl) $$ Hy
  iapply (wpc_ret c)
  iapply Hk
  isplitl [Hx]; · iexact Hx
  isplitl [Hy]; · iexact Hy
  isplitl [Hz]; · iexact Hz
  iexists _; iexact HO

end Cert.KernelIdeal.Flow

end
-- ==== Proof.Whole.lean ====
module

public import proofs.«01_k».proof.Proof.Run

@[expose] public section

set_option maxRecDepth 16384

/-! # The result, and the body from its first step to its last -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X0 : Dev nD → Vec F S2048x2048 .f32) (D0 : Dev nD → Vec F S2048x8192 .f32) (K : Dev nD × CI → ℕ) (c : Dev nD)

/-! ## The chunks of the result -/

/-- Chunk `n` of a half of the result's columns: this device's, or the neighbour's. -/
def partR (b : Bool) (n : ℕ) : Rect S1024x8192 := if b then outYR c n else outR c n

/-- The first column of it. -/
def col (b : Bool) (n : ℕ) : ℕ := if b then 256 * (n % 16) + 4096 - 4096 * (c.val % 2) else 4096 * (c.val % 2) + 256 * (n % 16)

/-- The parts of the result have stride one. -/
theorem part_stride (b : Bool) (n : ℕ) (a) : (partR c b n).stride a = 1 := by cases b <;> rfl

/-- A part is 256 columns. -/
theorem part_mem (b : Bool) (n : ℕ) (i : S1024x8192.Idx) : i ∈ (partR c b n).set ↔ col c b n ≤ (i (1 : Fin 2)).val ∧ (i (1 : Fin 2)).val < col c b n + 256 := by
  have h0 : (i (0 : Fin 2)).val < 1024 := (i 0).isLt
  have key : ∀ (k : Fin 2 → ℕ) (v : ℕ) (hk : k = ![0, v]) (inb : ∀ a, k a + S1024x256.size a ≤ S1024x8192.size a),
      i ∈ (Rect.unit (s := S1024x8192) k S1024x256.size inb).set ↔ v ≤ (i (1 : Fin 2)).val ∧ (i (1 : Fin 2)).val < v + 256 := by
    rintro _ v rfl inb
    rw [Rect.mem_set_unit (inb := inb)]
    constructor
    · intro h; exact h (1 : Fin 2)
    · intro h a
      fin_cases a
      · exact ⟨Nat.zero_le _, by show (i (0 : Fin 2)).val < 0 + 1024; omega⟩
      · exact h
  cases b
  · exact key _ _ (k0_off4_eq c (fin16 n)) (k0_off4_inb c (fin16 n))
  · exact key _ _ (k0_off6_eq c (fin16 n)) (k0_off6_inb c (fin16 n))

/-- A place in a chunk. -/
def place (r : Fin 1024) (k : Fin 256) : S1024x256.Idx := fun a => match a with
  | ⟨0, _⟩ => r
  | ⟨1, _⟩ => k

/-- A place is its row and column. -/
theorem place_eta (j : S1024x256.Idx) : place (j (0 : Fin 2)) (j (1 : Fin 2)) = j := funext fun a => by fin_cases a <;> rfl

/-- What device `c`'s block of the result holds. -/
def OUT : Vec F S1024x8192 .f32 := fun i =>
  if (i (1 : Fin 2)).val / 4096 = c.val % 2 then
    QF X0 D0 c ((i (1 : Fin 2)).val % 4096 / 256) (place (i (0 : Fin 2)) ⟨(i (1 : Fin 2)).val % 256, Nat.mod_lt _ (by decide)⟩)
  else OY X0 D0 c ((i (1 : Fin 2)).val % 4096 / 256) (place (i (0 : Fin 2)) ⟨(i (1 : Fin 2)).val % 256, Nat.mod_lt _ (by decide)⟩)

/-- An element's coordinate within the whole is its offset and its coordinate within the part. -/
theorem unit_emb_val {k : Fin 2 → ℕ} {inb : ∀ a, k a + S1024x256.size a ≤ S1024x8192.size a} (j : S1024x256.Idx) (a : Fin 2) :
    ((Rect.unit (s := S1024x8192) k S1024x256.size inb).emb j a).val = k a + (j a).val := by
  rw [Rect.emb_apply]; show k a + 1 * _ = _; rw [Nat.one_mul]

/-- The columns of this device's half of the result hold its sums. -/
theorem out_mine {n : ℕ} (hn : n < 16) (j : S1024x256.Idx) : OUT X0 D0 c ((outR c n).emb j) = QF X0 D0 c n j := by
  have h0 : ((outR c n).emb j (0 : Fin 2)).val = (j (0 : Fin 2)).val := by
    rw [unit_emb_val, k0_off4_eq c (fin16 n)]; exact Nat.zero_add _
  have h1 : ((outR c n).emb j (1 : Fin 2)).val = 4096 * (c.val % 2) + 256 * (n % 16) + (j (1 : Fin 2)).val := by
    rw [unit_emb_val, k0_off4_eq c (fin16 n)]; rfl
  have hj : (j (1 : Fin 2)).val < 256 := (j 1).isLt
  unfold OUT
  rw [if_pos (by rw [h1]; omega), show ((outR c n).emb j (1 : Fin 2)).val % 4096 / 256 = n by rw [h1]; omega]
  conv_rhs => rw [← place_eta j]
  congr 2
  · exact Fin.ext h0
  · exact Fin.ext (by show ((outR c n).emb j (1 : Fin 2)).val % 256 = _; rw [h1]; omega)

/-- The columns of the other half of the result hold what came from the neighbour. -/
theorem out_yours {n : ℕ} (hn : n < 16) (j : S1024x256.Idx) : OUT X0 D0 c ((outYR c n).emb j) = OY X0 D0 c n j := by
  have h0 : ((outYR c n).emb j (0 : Fin 2)).val = (j (0 : Fin 2)).val := by
    rw [unit_emb_val, k0_off6_eq c (fin16 n)]; exact Nat.zero_add _
  have h1 : ((outYR c n).emb j (1 : Fin 2)).val = 256 * (n % 16) + 4096 - 4096 * (c.val % 2) + (j (1 : Fin 2)).val := by
    rw [unit_emb_val, k0_off6_eq c (fin16 n)]; rfl
  have hj : (j (1 : Fin 2)).val < 256 := (j 1).isLt
  unfold OUT
  rw [if_neg (by rw [h1]; omega), show ((outYR c n).emb j (1 : Fin 2)).val % 4096 / 256 = n by rw [h1]; omega]
  conv_rhs => rw [← place_eta j]
  congr 2
  · exact Fin.ext h0
  · exact Fin.ext (by show ((outYR c n).emb j (1 : Fin 2)).val % 256 = _; rw [h1]; omega)

/-- Different parts of the result share no element. -/
theorem part_disj (t t' : Bool × Fin 16) (h : t ≠ t') : Disjoint (partR c t.1 t.2.val).set (partR c t'.1 t'.2.val).set := by
  rw [Finset.disjoint_left]
  intro i hi hi'
  rw [part_mem] at hi hi'
  obtain ⟨b, n⟩ := t
  obtain ⟨b', n'⟩ := t'
  apply h
  have hn := n.isLt; have hn' := n'.isLt
  cases b <;> cases b' <;> simp only [col, Bool.false_eq_true, if_true, if_false] at hi hi'
  · exact Prod.ext rfl (Fin.ext (by show n.val = n'.val; omega))
  · exfalso; omega
  · exfalso; omega
  · exact Prod.ext rfl (Fin.ext (by show n.val = n'.val; omega))

/-- The parts of the result cover it. -/
theorem part_cover : (Finset.univ : Finset (Bool × Fin 16)).biUnion (fun t => (partR c t.1 t.2.val).set) = Finset.univ :=
  Finset.eq_univ_iff_forall.mpr fun i => by
    have hi : (i (1 : Fin 2)).val < 8192 := (i 1).isLt
    refine Finset.mem_biUnion.mpr ⟨(decide ((i (1 : Fin 2)).val / 4096 ≠ c.val % 2), ⟨(i (1 : Fin 2)).val % 4096 / 256, by omega⟩), Finset.mem_univ _, ?_⟩
    rw [part_mem]
    by_cases h : (i (1 : Fin 2)).val / 4096 = c.val % 2
    · simp only [col, h, ne_eq, not_true_eq_false, decide_false, Bool.false_eq_true, if_false]; omega
    · simp only [col, h, ne_eq, not_false_eq_true, decide_true, if_true]; omega

/-- The result's block, at some contents, gives its chunks, not yet written. -/
theorem out_split : (anyAt c outM : sProp 𝕄) ⊢ iprop(fam (outTodo c) 0 16 ∗ fam (outYTodo c) 0 16) := by
  rw [fam_fin, fam_fin]
  have h : (anyAt c outM : sProp 𝕄) ⊢ bigSep Finset.univ fun t : Bool × Fin 16 => anyAt c (outM.slice (partR c t.1 t.2.val) (part_stride c t.1 t.2.val)) := by
    unfold anyAt
    iintro ⟨%X, H⟩
    ihave H := (owns_rects (c : Thread nD τ) outM fullShare (fun t : Bool × Fin 16 => partR c t.1 t.2.val) (fun t => part_stride c t.1 t.2.val) (part_disj c) (part_cover c) X) $$ H
    iapply (show (bigSep Finset.univ fun t : Bool × Fin 16 => owns (c : Thread nD τ) (outM.slice (partR c t.1 t.2.val) (part_stride c t.1 t.2.val)) fullShare
        (fun j => X ((partR c t.1 t.2.val).emb j)) : sProp 𝕄)
        ⊢ bigSep Finset.univ fun t : Bool × Fin 16 => iprop(∃ X, owns (c : Thread nD τ) (outM.slice (partR c t.1 t.2.val) (part_stride c t.1 t.2.val)) fullShare X) from
      bigSep_mono fun (t : Bool × Fin 16) _ => anyAt_intro c (m := outM.slice (partR c t.1 t.2.val) (part_stride c t.1 t.2.val)) (fun j => X ((partR c t.1 t.2.val).emb j)))
    iexact H
  refine h.trans ?_
  rw [bigSep_univ_prod (fun t : Bool × Fin 16 => (anyAt c (outM.slice (partR c t.1 t.2.val) (part_stride c t.1 t.2.val)) : sProp 𝕄)),
    bigSep_univ_eq_bigSepL [false, true] (by decide) (by decide), bigSepL_cons_cons, bigSepL_singleton]
  exact .rfl

/-- The parts of the result, all written, give the whole result. -/
theorem out_join : iprop(fam (outDone X0 D0 c) 0 16 ∗ fam (outYDone X0 D0 c) 0 16) ⊢ (owns (c : Thread nD τ) outM fullShare (OUT X0 D0 c) : sProp 𝕄) := by
  rw [fam_fin, fam_fin]
  have h := owns_of_rects (Ix := Unit) (Name := ℕ) (U := UU) (Lvl := ℕ) (c : Thread nD τ) outM fullShare (fun t : Bool × Fin 16 => partR c t.1 t.2.val) (fun t => part_stride c t.1 t.2.val)
    (part_disj c) (part_cover c) (OUT X0 D0 c)
  refine BIBase.Entails.trans ?_ h
  rw [bigSep_univ_prod (fun t : Bool × Fin 16 => (owns (c : Thread nD τ) (outM.slice (partR c t.1 t.2.val) (part_stride c t.1 t.2.val)) fullShare
      (fun j => OUT X0 D0 c ((partR c t.1 t.2.val).emb j)) : sProp 𝕄)),
    bigSep_univ_eq_bigSepL [false, true] (by decide) (by decide), bigSepL_cons_cons, bigSepL_singleton]
  have h1 : (bigSep Finset.univ fun n : Fin 16 => outDone X0 D0 c n.val : sProp 𝕄) ⊢ bigSep Finset.univ fun n : Fin 16 =>
      owns (c : Thread nD τ) (outM.slice (partR c false n.val) (part_stride c false n.val)) fullShare (fun j => OUT X0 D0 c ((partR c false n.val).emb j)) :=
    bigSep_mono fun n _ => by
      show outDone X0 D0 c n.val ⊢ owns (c : Thread nD τ) (outS c n.val) fullShare (fun j => OUT X0 D0 c ((outR c n.val).emb j))
      exact Entails.of_eq (congrArg (fun X => (owns (c : Thread nD τ) (outS c n.val) fullShare X : sProp 𝕄)) (funext fun j => (out_mine X0 D0 c n.isLt j).symm))
  have h2 : (bigSep Finset.univ fun n : Fin 16 => outYDone X0 D0 c n.val : sProp 𝕄) ⊢ bigSep Finset.univ fun n : Fin 16 =>
      owns (c : Thread nD τ) (outM.slice (partR c true n.val) (part_stride c true n.val)) fullShare (fun j => OUT X0 D0 c ((partR c true n.val).emb j)) :=
    bigSep_mono fun n _ => by
      show outYDone X0 D0 c n.val ⊢ owns (c : Thread nD τ) (outYS c n.val) fullShare (fun j => OUT X0 D0 c ((outYR c n.val).emb j))
      exact Entails.of_eq (congrArg (fun X => (owns (c : Thread nD τ) (outYS c n.val) fullShare X : sProp 𝕄)) (funext fun j => (out_yours X0 D0 c n.isLt j).symm))
  exact BI.sep_mono h1 h2

/-! ## The body -/

/-- Families are monotone, with the bounds of the number known. -/
theorem fam_mono_lt {P P' : ℕ → sProp 𝕄} (a b : ℕ) (h : ∀ i, a ≤ i → i < b → P i ⊢ P' i) : fam P a b ⊢ fam P' a b :=
  bigSep_mono fun i hi => h i (Finset.mem_Ico.mp hi).1 (Finset.mem_Ico.mp hi).2

/-- A family of pairs is a pair of families. -/
theorem fam_sep (P P' : ℕ → sProp 𝕄) (a b : ℕ) : fam (fun n => iprop(P n ∗ P' n)) a b = iprop(fam P a b ∗ fam P' a b) := by
  unfold fam; exact bigSep_sep' _ _ _

/-- What a device may do with chunk `n` along `x`, before it knows of the landing columns. -/
def toksX (n : ℕ) : sProp 𝕄 := iprop(dutyTok ER (cSx c n) 0 false ∗ dutyTok ER (cRx (xPeer c) n) 0 false ∗ atPos ER (cSx c n) 0 ∅ 0)
/-- What a device may do with chunk `n` along `y`, before it knows of the landing columns. -/
def toksY (n : ℕ) : sProp 𝕄 := iprop(dutyTok ER (cSy c n) 0 false ∗ dutyTok ER (cRy (yPeer c) n) 0 false ∗ atPos ER (cSy c n) 0 ∅ 0)

/-- With the neighbour's landing columns, all chunks may be sent along `x`. -/
theorem sendX_all : iprop(fam (toksX c) 0 16 ∗ fam (fun n => anyAt (xPeer c) (rxS n)) 0 16) ⊢ (fam (sendX c) 0 16 : sProp 𝕄) := by
  rw [← fam_sep]
  refine fam_mono 0 16 fun n => ?_
  unfold toksX sendX
  iintro ⟨⟨H1, H2, H3⟩, H4⟩
  isplitl [H1]; · iexact H1
  isplitl [H2]; · iexact H2
  isplitl [H4] <;> iassumption
/-- With the neighbour's landing columns, all chunks may be sent along `y`. -/
theorem sendY_all : iprop(fam (toksY c) 0 16 ∗ fam (fun n => anyAt (yPeer c) (ryS n)) 0 16) ⊢ (fam (sendY c) 0 16 : sProp 𝕄) := by
  rw [← fam_sep]
  refine fam_mono 0 16 fun n => ?_
  unfold toksY sendY
  iintro ⟨⟨H1, H2, H3⟩, H4⟩
  isplitl [H1]; · iexact H1
  isplitl [H2]; · iexact H2
  isplitl [H4] <;> iassumption

/-- The buffers and local semaphores a body works with. -/
def tools : sProp 𝕄 :=
  iprop(anyAt c xbM ∗ xReady c 0 ∗ xReady c 1 ∗ dyReady c 0 ∗ dyReady c 1 ∗ anyAt c dybM ∗ fam (pReady c) 0 4 ∗ anyAt c sbM ∗ anyAt c ybM
    ∗ anyAt c rxM ∗ anyAt c ryM ∗ fam (ytReady c) 0 4)

/-- What a body starts with. -/
def begins : sProp 𝕄 :=
  iprop(owns (c : Thread nD τ) xIn fullShare (X0 c) ∗ owns (c : Thread nD τ) dyIn fullShare (D0 c) ∗ anyAt c outM ∗ tools c
    ∗ (dutyTok ER (cBar (xPeer c)) 0 false ∗ dutyTok ER (cBar (yPeer c)) 0 true ∗ cred (tallyAt (cBar c) () 2) ∗ atPos ER (cBar c) 0 ∅ 0)
    ∗ fam (toksX c) 0 16 ∗ fam (toksY c) 0 16 ∗ fam (awaitX c) 0 16 ∗ fam (awaitY c) 0 16 ∗ owesAny c (O₀ c))

/-- What it ends with: the arguments as they were, the result, and every semaphore at zero. -/
def ends : sProp 𝕄 :=
  iprop(owns (c : Thread nD τ) xIn fullShare (X0 c) ∗ owns (c : Thread nD τ) dyIn fullShare (D0 c) ∗ owns (c : Thread nD τ) outM fullShare (OUT X0 D0 c) ∗ tools c
    ∗ semVal (cBar c) 0 ∗ fam (goneX c) 0 16 ∗ fam (fun n => semVal (cRx c n) 0) 0 16 ∗ fam (goneY c) 0 16 ∗ fam (fun n => semVal (cRy c n) 0) 0 16
    ∗ owesAny c 0)

/-- One step of the loop that takes the last chunks from the `y` neighbour. -/
theorem service_loop (s : ℕ) (hs : s < 16) (Q : PUnit → sProp 𝕄) :
    iprop(env X0 D0 K ∗ iprop(stC X0 D0 c s ∗ owesAny c (owed c 16 16)) ∗ (iprop(stC X0 D0 c (s + 1) ∗ owesAny c (owed c 16 16)) -∗ Q ⟨⟩)) ⊢ wpc c (service c s) Q := by
  iintro ⟨#He, ⟨HC, HO⟩, Hk⟩
  iapply (service_st X0 D0 K c hs (.inr rfl) hs)
  isplitr; · iexact He
  isplitl [HC]; · iexact HC
  isplitl [HO]; · iexact HO
  iexact Hk

/-- A device's body, from its first step to its last. -/
theorem body_ok (Q : PUnit → sProp 𝕄) : iprop(env X0 D0 K ∗ begins X0 D0 c ∗ (ends X0 D0 c -∗ Q ⟨⟩)) ⊢ wpc c (bodyOn c) Q := by
  unfold begins tools
  iintro ⟨#He, ⟨Hx, Hdy, Hout, ⟨Hxb, Hx0, Hx1, Hd0, Hd1, Hdyb, Hp, Hsb, Hyb, Hrx, Hry, Hyt⟩, ⟨Htx, Hty, Hcb, Hatb⟩, HtX, HtY, HaX, HaY, HO⟩, Hk⟩
  unfold bodyOn
  rw [wpc_bind]
  iapply (startLoad_ok D0 c 0)
  isplitl [Hdy]; · iexact Hdy
  isplitl [Hd0]; · iexact Hd0
  iintro Hd0
  ihave Hx := (show owns (c : Thread nD τ) xIn fullShare (X0 c) ⊢ (fam (xRows X0 c) 0 4 : sProp 𝕄) from fam_split c tile_slab fullShare (X0 c)) $$ Hx
  ihave Hx := (fam_pop (xRows X0 c) (by decide : 0 < 4)) $$ Hx; icases Hx with ⟨Hr0, Hx⟩
  ihave Hx := (fam_pop (xRows X0 c) (by decide : 1 < 4)) $$ Hx; icases Hx with ⟨Hr1, Hx⟩
  rw [wpc_bind]
  iapply (startX_ok X0 c 0 (by decide))
  isplitl [Hx0]; · iexact Hx0
  isplitl [Hr0]; · iexact Hr0
  iintro Hx0
  rw [wpc_bind]
  iapply (startX_ok X0 c 1 (by decide))
  isplitl [Hx1]; · iexact Hx1
  isplitl [Hr1]; · iexact Hr1
  iintro Hx1
  rw [wpc_bind]
  ihave Hxb := (any_split c tile_slab) $$ Hxb
  iapply (loop_ok X0 D0 K c (stX X0 c) slab 4 (slab_ok X0 D0 K c) _ 4 0 (le_refl _))
  isplitr; · iexact He
  isplitl [Hx0 Hx1 Hx Hxb HO]
  · unfold stX
    isplitl [Hx0]; · iexact Hx0
    isplitl [Hx1]; · iexact Hx1
    isplitl [Hx]; · iexact Hx
    isplitr; · iapply (fam_nil _ 0); iempintro
    isplitl [Hxb]; · iexact Hxb
    isplitr; · iapply (fam_nil _ 0); iempintro
    iexact HO
  iintro HX
  unfold stX
  icases HX with ⟨Hx0, Hx1, -, Hx, -, Hxb, HO⟩
  ihave Hx := (show fam (xRows X0 c) 0 4 ⊢ (owns (c : Thread nD τ) xIn fullShare (X0 c) : sProp 𝕄) from fam_join c tile_slab fullShare (X0 c)) $$ Hx
  ihave Hxb := (show fam (xbDone X0 c) 0 4 ⊢ (owns (c : Thread nD τ) xbM fullShare (XB X0 c) : sProp 𝕄) from fam_join c tile_slab fullShare (XB X0 c)) $$ Hxb
  ihave Hx0 := (show xNext X0 c 4 ⊢ (xReady c 0 : sProp 𝕄) from by
    unfold xNext; rw [if_neg (by decide), xReady_congr c (show 4 % 2 = 0 % 2 from rfl)]) $$ Hx0
  ihave Hx1 := (show xNext X0 c 5 ⊢ (xReady c 1 : sProp 𝕄) from by
    unfold xNext; rw [if_neg (by decide), xReady_congr c (show 5 % 2 = 1 % 2 from rfl)]) $$ Hx1
  rw [wpc_bind]
  iapply (handshake_ok X0 D0 K c)
  isplitr; · iexact He
  isplitl [Hrx]; · iapply (any_split c tile_cols); iexact Hrx
  isplitl [Hry]; · iapply (any_split c tile_cols); iexact Hry
  isplitl [Htx]; · iexact Htx
  isplitl [Hty]; · iexact Hty
  isplitl [Hcb]; · iexact Hcb
  isplitl [Hatb]; · iexact Hatb
  isplitl [HO]; · iexact HO
  iintro ⟨Hrx, Hry, Hbar, HO⟩
  rw [wpc_bind]
  iapply (loop_ok X0 D0 K c (st X0 D0 c) (chunk c) 16 (chunk_ok X0 D0 K c) _ 16 0 (le_refl _))
  isplitr; · iexact He
  ihave Hout := (out_split c) $$ Hout
  icases Hout with ⟨Hout, HoutY⟩
  isplitl [Hxb Hdyb Hd0 Hd1 HtX HtY HaX HaY Hsb Hyb Hp Hyt Hrx Hry Hout HoutY HO]
  · unfold st stA stP stB stC
    isplitl [Hxb Hdyb Hd0 Hd1 HtX Hrx Hsb]
    · isplitl [Hxb]; · iexact Hxb
      isplitl [Hdyb]; · iexact Hdyb
      isplitl [Hd0 Hd1]
      · unfold dyState; rw [if_pos (by decide)]
        isplitl [Hd0]; · iexact Hd0
        iexact Hd1
      isplitl [HtX Hrx]; · iapply (sendX_all c); isplitl [HtX] <;> iassumption
      isplitr; · iapply (fam_nil _ 0); iempintro
      ihave Hsb := (any_split c tile_slot) $$ Hsb
      iapply (show fam (fun n => anyAt c (slotOf sbM n)) 0 4 ⊢ (fam (sbFree c) 0 4 : sProp 𝕄) from fam_mono_lt 0 4 fun i _ hi => by
        unfold sbFree; rw [if_neg (by omega)])
      iexact Hsb
    isplitl [Hp]
    · isplitr; · iapply (fam_nil _ 0); iempintro
      isplitl [Hp]
      · iapply (show fam (pReady c) 0 4 ⊢ (fam (pFree X0 D0 c) 0 4 : sProp 𝕄) from fam_mono_lt 0 4 fun i _ hi => by
          unfold pFree; rw [if_neg (by omega)])
        iexact Hp
      iapply (fam_nil _ 0); iempintro
    isplitl [HtY Hry Hyb HaX Hout]
    · isplitl [HtY Hry]; · iapply (sendY_all c); isplitl [HtY] <;> iassumption
      isplitr; · iapply (fam_nil _ 0); iempintro
      isplitl [Hyb]
      · ihave Hyb := (any_split c tile_slot) $$ Hyb
        iapply (show fam (fun n => anyAt c (slotOf ybM n)) 0 4 ⊢ (fam (ybFree c) 0 4 : sProp 𝕄) from fam_mono_lt 0 4 fun i _ hi => by
          unfold ybFree; rw [if_neg (by omega)])
        iexact Hyb
      isplitl [HaX]; · iexact HaX
      isplitr; · iapply (fam_nil _ 0); iempintro
      iexact Hout
    isplitl [HaY Hyt HoutY]
    · isplitl [HaY]; · iexact HaY
      isplitr; · iapply (fam_nil _ 0); iempintro
      isplitl [Hyt]
      · iapply (show fam (ytReady c) 0 4 ⊢ (fam (ytFree X0 D0 c) 0 4 : sProp 𝕄) from fam_mono_lt 0 4 fun i _ hi => by
          unfold ytFree; rw [if_neg (by omega)])
        iexact Hyt
      isplitl [HoutY]; · iexact HoutY
      iapply (fam_nil _ 0); iempintro
    iexact HO
  iintro HS
  ihave HS := (show st X0 D0 c (0 + 16) ⊢ iprop(stA X0 D0 c 16 ∗ stP X0 D0 c 16 15 ∗ stB c 15 ∗ stC X0 D0 c 13 ∗ owesAny c (owed c 16 15)) from .rfl) $$ HS
  icases HS with ⟨HA, HP, HB, HC, HO⟩
  rw [wpc_bind]
  iapply (finish_st X0 D0 K c (n := 16) (f := 15) (by decide) (by decide) (by decide))
  isplitr; · iexact He
  isplitl [HP]; · iexact HP
  isplitl [HB]; · iexact HB
  isplitl [HO]; · iexact HO
  iintro ⟨HP, HB, HO⟩
  rw [wpc_bind]
  iapply (loop_ok X0 D0 K c (fun s => iprop(stC X0 D0 c s ∗ owesAny c (owed c 16 16))) (service c) 16 (service_loop X0 D0 K c) _ 3 13 (le_refl _))
  isplitr; · iexact He
  isplitl [HC HO]; · isplitl [HC] <;> iassumption
  iintro ⟨HC, HO⟩
  ihave HA := (show stA X0 D0 c 16 ⊢ iprop(owns (c : Thread nD τ) xbM fullShare (XB X0 c) ∗ anyAt c dybM ∗ ((owns (c : Thread nD τ) dyIn fullShare (D0 c) ∗ dyReady c 16) ∗ dyReady c 17)
    ∗ fam (sendX c) 16 16 ∗ fam (goneX c) 0 12 ∗ fam (sbFree c) 16 20) from by unfold stA dyState; rw [if_neg (by decide)]) $$ HA
  icases HA with ⟨Hxb, Hdyb, ⟨⟨Hdy, Hd0⟩, Hd1⟩, -, Hgx, Hsb⟩
  ihave HP := (show stP X0 D0 c 16 16 ⊢ iprop(fam (pMid X0 D0 c) 16 16 ∗ fam (pFree X0 D0 c) 16 20 ∗ fam (outDone X0 D0 c) 0 12) from .rfl) $$ HP
  icases HP with ⟨-, Hpf, Hod⟩
  ihave HB := (show stB c 16 ⊢ iprop(fam (sendY c) 16 16 ∗ fam (goneY c) 0 12 ∗ fam (ybFree c) 16 20 ∗ fam (awaitX c) 16 16 ∗ fam (cameX c) 0 16 ∗ fam (outTodo c) 16 16) from .rfl) $$ HB
  icases HB with ⟨-, Hgy, Hyb, -, Hcx, -⟩
  ihave HC := (show stC X0 D0 c 16 ⊢ iprop(fam (awaitY c) 16 16 ∗ fam (cameY c) 0 16 ∗ fam (ytFree X0 D0 c) 16 20 ∗ fam (outYTodo c) 16 16 ∗ fam (outYDone X0 D0 c) 0 12) from .rfl) $$ HC
  icases HC with ⟨-, Hcy, Hyt, -, Hoy⟩
  iapply (loop_ok X0 D0 K c (fun d => iprop(stD X0 D0 c d ∗ ⌜12 ≤ d⌝)) (drain c) 16 (fun d hd Q => by
    iintro ⟨#He, ⟨H, %h⟩, Hk⟩
    iapply (drain_ok X0 D0 K c d h hd)
    isplitr; · iexact He
    isplitl [H]; · iexact H
    iintro H
    iapply Hk
    isplitl [H]; · iexact H
    ipureintro; omega) _ 4 12 (le_refl _))
  isplitr; · iexact He
  isplitl [Hsb Hgx Hyb Hgy Hpf Hod Hyt Hoy HO]
  · isplitl [Hsb Hgx Hyb Hgy Hpf Hod Hyt Hoy HO]
    · unfold stD
      isplitl [Hsb Hgx]
      · isplitl [Hsb]; · iexact Hsb
        isplitl [Hgx]; · iexact Hgx
        iapply (fam_nil _ 0); iempintro
      isplitl [Hyb Hgy]
      · isplitl [Hyb]; · iexact Hyb
        isplitl [Hgy]; · iexact Hgy
        iapply (fam_nil _ 0); iempintro
      isplitl [Hpf Hod]
      · isplitl [Hpf]; · iexact Hpf
        isplitl [Hod]; · iexact Hod
        iapply (fam_nil _ 0); iempintro
      isplitl [Hyt Hoy]
      · isplitl [Hyt]; · iexact Hyt
        isplitl [Hoy]; · iexact Hoy
        iapply (fam_nil _ 0); iempintro
      iexact HO
    ipureintro; exact le_refl _
  iintro ⟨HD, -⟩
  unfold stD
  icases HD with ⟨⟨-, Hgx, Hsb⟩, ⟨-, Hgy, Hyb⟩, ⟨-, Hod, Hp⟩, ⟨-, Hoy, Hyt⟩, HO⟩
  rw [owed_none]
  iapply Hk
  ihave Hcx := (show fam (cameX c) 0 16 ⊢ iprop(fam (fun n => semVal (cRx c n) 0) 0 16 ∗ fam (fun n => anyAt c (rxS n)) 0 16) from by
    rw [← fam_sep]; exact .rfl) $$ Hcx
  icases Hcx with ⟨Hvx, Hrx⟩
  ihave Hcy := (show fam (cameY c) 0 16 ⊢ iprop(fam (fun n => semVal (cRy c n) 0) 0 16 ∗ fam (fun n => anyAt c (ryS n)) 0 16) from by
    rw [← fam_sep]; exact .rfl) $$ Hcy
  icases Hcy with ⟨Hvy, Hry⟩
  unfold ends tools
  isplitl [Hx]; · iexact Hx
  isplitl [Hdy]; · iexact Hdy
  isplitl [Hod Hoy]; · iapply (out_join X0 D0 c); isplitl [Hod] <;> iassumption
  isplitl [Hxb Hx0 Hx1 Hd0 Hd1 Hdyb Hp Hsb Hyb Hrx Hry Hyt]
  · isplitl [Hxb]; · iapply (anyAt_intro c (XB X0 c)); iexact Hxb
    isplitl [Hx0]; · iexact Hx0
    isplitl [Hx1]; · iexact Hx1
    isplitl [Hd0]; · rw [dyReady_congr c (show 0 % 2 = 16 % 2 from rfl)]; iexact Hd0
    isplitl [Hd1]; · rw [dyReady_congr c (show 1 % 2 = 17 % 2 from rfl)]; iexact Hd1
    isplitl [Hdyb]; · iexact Hdyb
    isplitl [Hp]; · iexact Hp
    isplitl [Hsb]; · iapply (any_join c tile_slot); iexact Hsb
    isplitl [Hyb]; · iapply (any_join c tile_slot); iexact Hyb
    isplitl [Hrx]; · iapply (any_join c tile_cols); iexact Hrx
    isplitl [Hry]; · iapply (any_join c tile_cols); iexact Hry
    iexact Hyt
  isplitl [Hbar]; · iexact Hbar
  isplitl [Hgx]; · iexact Hgx
  isplitl [Hvx]; · iexact Hvx
  isplitl [Hgy]; · iexact Hgy
  isplitl [Hvy] <;> iassumption

end Cert.KernelIdeal.Flow

end
-- ==== Proof.Deal.lean ====
module

public import proofs.«01_k».proof.Proof.Whole
public import proofs.«01_k».proof.Proof.Gen.KernelIdeal.Launch
public import Idealize.ShloMosaic.Lib.Pipeline.Launch
public import Idealize.ShloMosaic.Lib.Pipeline.Kit

@[expose] public section

set_option maxRecDepth 16384

/-! # What the four devices start from

The launch makes the shared semaphores' ghost state once for all devices; here it is dealt out: each device
keeps the positions of its own semaphores and receives the tokens of the units it will pay. -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X0 : Dev nD → Vec F S2048x2048 .f32) (D0 : Dev nD → Vec F S2048x8192 .f32)

/-! ## Indices -/

/-- A device's own semaphores: the shared ones of the two exchanges, and those of its local copies. -/
abbrev OI : Type := (Fin 4 × Fin 16) ⊕ ((Fin 2 × Fin 2) ⊕ (Fin 2 × Fin 4))

/-- Where they are. -/
def osem : OI → SemLoc sig
  | .inl p => csem (some p)
  | .inr (.inl (0, k)) => .dma (xSem k.val)
  | .inr (.inl (1, k)) => .dma (dySem k.val)
  | .inr (.inr (0, k)) => .dma (stSem k.val)
  | .inr (.inr (1, k)) => .dma (ystSem k.val)

/-- The semaphores named as the kernel's own satisfy what the launch asks of them. -/
theorem ownSemFacts : Pipeline.OwnSemFacts cfg0.spec osem :=
  ⟨by decide +kernel, by decide +kernel, fun _ w => w.elim0⟩

/-- A family over the shared semaphores: those of the exchanges, and the barrier's. -/
theorem split_ci (Φ : CI → sProp 𝕄) : bigSep Finset.univ Φ = iprop((bigSep Finset.univ fun p => Φ (some p)) ∗ Φ none) := by
  rw [bigSep_univ_equiv (Equiv.optionEquivSumPUnit (Fin 4 × Fin 16)).symm Φ, BI.bigSep_univ_sum,
    bigSep_univ_of_subsingleton (() : Unit)]
  rfl

/-- A family over one device's exchange semaphores, as four families along the chunks. -/
theorem four (c : Dev nD) (f : GSem nD τ sig → sProp 𝕄) :
    (bigSep Finset.univ fun p : Fin 4 × Fin 16 => f (kcell (c, some p)))
      = iprop(fam (fun n => f (cSx c n)) 0 16 ∗ fam (fun n => f (cRx c n)) 0 16 ∗ fam (fun n => f (cSy c n)) 0 16 ∗ fam (fun n => f (cRy c n)) 0 16) := by
  rw [bigSep_univ_prod, bigSep_univ_eq_bigSepL [0, 1, 2, 3] (by decide) (by decide), bigSepL_cons_cons, bigSepL_cons_cons, bigSepL_cons_cons,
    bigSepL_singleton, fam_fin, fam_fin, fam_fin, fam_fin]
  rfl

/-- A family over two rows is one row and the other. -/
theorem two {n : ℕ} (Φ : Fin 2 × Fin n → sProp 𝕄) :
    bigSep Finset.univ Φ = iprop((bigSep Finset.univ fun k => Φ (0, k)) ∗ bigSep Finset.univ fun k => Φ (1, k)) := by
  rw [bigSep_univ_prod]; exact BI.bigSep_fin_two _

/-- The semaphores of a device's local copies, all at zero. -/
def locals (c : Dev nD) : sProp 𝕄 :=
  iprop((fam (fun n => semVal ((c : Thread nD τ), .dma (xSem n)) 0) 0 2 ∗ fam (fun n => semVal ((c : Thread nD τ), .dma (dySem n)) 0) 0 2)
    ∗ fam (fun n => semVal ((c : Thread nD τ), .dma (stSem n)) 0) 0 4 ∗ fam (fun n => semVal ((c : Thread nD τ), .dma (ystSem n)) 0) 0 4)

/-- A device's own semaphores at zero: the chunks' four families and the local ones. -/
theorem ownSems0_eq (c : Dev nD) : (Pipeline.ownSems0 (Ix := Unit) (Name := ℕ) (U := UU) (Lvl := ℕ) (Val := Elt F) (τ := τ) osem c : sProp 𝕄)
    = iprop((bigSep Finset.univ fun p : Fin 4 × Fin 16 => semVal (kcell (c, some p)) 0) ∗ locals c) := by
  unfold Pipeline.ownSems0 locals
  rw [BI.bigSep_univ_sum, BI.bigSep_univ_sum, two (n := 2), two (n := 4),
    fam_fin, fam_fin, fam_fin, fam_fin]
  rfl

/-- The one semaphore of a device that outlives the kernel is the barrier. -/
theorem unscopedSems0_eq (c : Dev nD) : (unscopedSems0 c : sProp 𝕄) = semVal (cBar c) 0 := by
  unfold unscopedSems0
  rw [bigSep_eq_bigSepL_of_eq [SemLoc.reg barSem] (by decide +kernel) (by decide), bigSepL_singleton]

/-! ## The ghost state made, and dealt -/

/-- The shared semaphores of all devices. -/
def ringCells : Finset (GSem nD τ sig) := Finset.univ.map ⟨kcell, kcell_injective⟩

/-- The tokens of one device's semaphores: one each, and a second of the barrier. -/
def tokOf (x : Dev nD × (CI ⊕ Unit)) : GSem nD τ sig × ℕ × Bool := match x.2 with
  | .inl i => (kcell (x.1, i), 0, false)
  | .inr _ => (kcell (x.1, none), 0, true)

/-- Different duties have different tokens. -/
theorem tokOf_injective : Function.Injective tokOf := by
  rintro ⟨c, i | i⟩ ⟨c', i' | i'⟩ h
  · have := kcell_injective (congrArg Prod.fst h : kcell (c, i) = kcell (c', i'))
    obtain ⟨rfl, rfl⟩ := (Prod.mk.injEq _ _ _ _).mp this; rfl
  · exact absurd (congrArg (fun x : GSem nD τ sig × ℕ × Bool => x.2.2) h : false = true) Bool.false_ne_true
  · exact absurd (congrArg (fun x : GSem nD τ sig × ℕ × Bool => x.2.2) h : true = false).symm Bool.false_ne_true
  · have := kcell_injective (congrArg Prod.fst h : kcell (c, none) = kcell (c', none))
    obtain ⟨rfl, -⟩ := (Prod.mk.injEq _ _ _ _).mp this; rfl

/-- The tokens of all duties. -/
def ringToks : Finset (GSem nD τ sig × ℕ × Bool) := Finset.univ.map ⟨tokOf, tokOf_injective⟩

/-- What the launch element is. -/
def u₀ : UU :=
  (initOf (Pipeline.cells cfgs cellOf_inj) (Pipeline.launchToks cfgs cellOf_inj), initOf ringCells ringToks, (1 : Counters))

/-- The tokens of device `c`'s own semaphores. -/
def toks (c : Dev nD) : sProp 𝕄 :=
  iprop(((bigSep Finset.univ fun p : Fin 4 × Fin 16 => dutyTok ER (kcell (c, some p)) 0 false) ∗ dutyTok ER (cBar c) 0 false) ∗ dutyTok ER (cBar c) 0 true)

/-- What the launch element gives device `c`. -/
def G (c : Dev nD) : sProp 𝕄 :=
  iprop((bigSep Finset.univ fun i : CI => roundState ER (Rd X0 D0) (kcell (c, i)) 0)
    ∗ (bigSep Finset.univ fun i : CI => iprop(atPos ER (kcell (c, i)) 0 ∅ 0 ∗ reached ER (kcell (c, i)) 0)) ∗ toks c)

/-- The launch element gives each device its semaphores' ghost state and tokens. -/
theorem fund_ring : BI.own (ER (initOf ringCells ringToks)) ⊢ (|==> bigSep Finset.univ (G X0 D0) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, split_ci, bigSep_univ_of_subsingleton (() : Unit)]; rfl
  iintro HX
  imod (Rounds.fund ER (Rd X0 D0) ringCells ringToks) $$ HX with ⟨Hst, Hr, Hat, Htok⟩
  imodintro
  ihave Hst' := (Entails.of_eq (hX fun g => roundState ER (Rd X0 D0) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The shared semaphores' invariants are made of their counters at zero and their states. -/
theorem core_alloc (c : Dev nD) :
    iprop(Pipeline.ownSems0 (Ix := Unit) (Name := ℕ) (U := UU) (Lvl := ℕ) (Val := Elt F) (τ := τ) osem c ∗ unscopedSems0 c ∗ G X0 D0 c)
      ⊢ |={Set.univ}=> iprop((bigSep Finset.univ fun i => iprop(∃ κ : ℕ, cellInv ER (Rd X0 D0) κ (kcell (c, i))))
          ∗ (bigSep Finset.univ fun i : CI => iprop(atPos ER (kcell (c, i)) 0 ∅ 0 ∗ reached ER (kcell (c, i)) 0)) ∗ toks c ∗ locals c) := by
  rw [ownSems0_eq, unscopedSems0_eq]
  unfold G
  iintro ⟨⟨Hos, Hloc⟩, Hus, Hst, Hat, Htok⟩
  ihave Hv := (Entails.of_eq (split_ci fun i : CI => (semVal (kcell (c, i)) 0 : sProp 𝕄)).symm) $$ [Hos Hus]
  · isplitl [Hos]; · iexact Hos
    iexact Hus
  imod (show iprop((bigSep Finset.univ fun i : CI => semVal (kcell (c, i)) 0) ∗ bigSep Finset.univ fun i : CI => roundState ER (Rd X0 D0) (kcell (c, i)) 0)
      ⊢ (|={Set.univ}=> bigSep Finset.univ fun i => iprop(∃ κ : ℕ, cellInv ER (Rd X0 D0) κ (kcell (c, i))) : sProp 𝕄) from by
        rw [← bigSep_sep']
        exact (bigSep_mono fun i _ => (Rounds.body_intro ER (Rd X0 D0) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- What every device may read of the shared semaphores. -/
def records (K : Dev nD × CI → ℕ) : sProp 𝕄 :=
  iprop((bigSep Finset.univ fun p : Dev nD × CI => cellInv ER (Rd X0 D0) (K p) (kcell p))
    ∗ bigSep Finset.univ fun p : Dev nD × CI => reached ER (kcell p) 0)

instance records_persistent (K : Dev nD × CI → ℕ) : BI.Persistent (records X0 D0 K) := by unfold records; infer_instance

/-- The tokens of the units device `c` pays. -/
def payToks (c : Dev nD) : sProp 𝕄 :=
  iprop(dutyTok ER (cBar (xPeer c)) 0 false ∗ dutyTok ER (cBar (yPeer c)) 0 true
    ∗ fam (fun n => dutyTok ER (cSx c n) 0 false) 0 16 ∗ fam (fun n => dutyTok ER (cRx (xPeer c) n) 0 false) 0 16
    ∗ fam (fun n => dutyTok ER (cSy c n) 0 false) 0 16 ∗ fam (fun n => dutyTok ER (cRy (yPeer c) n) 0 false) 0 16)

/-- What stays with device `c` alone. -/
def linear (c : Dev nD) : sProp 𝕄 :=
  iprop((bigSep Finset.univ fun i : CI => atPos ER (kcell (c, i)) 0 ∅ 0) ∗ payToks c ∗ locals c)

/-- What the launch's global step makes for device `c`. -/
def G' (c : Dev nD) : sProp 𝕄 := iprop(∃ K, records X0 D0 K ∗ linear c)

/-- The neighbours' relations are their own inverses. -/
def xs : Dev nD ≃ Dev nD := ⟨fun c => xPeer c, fun c => xPeer c, xPeer_xPeer, xPeer_xPeer⟩
/-- The devices, each sent to its `y` neighbour. -/
def ys : Dev nD ≃ Dev nD := ⟨fun c => yPeer c, fun c => yPeer c, yPeer_yPeer, yPeer_yPeer⟩

/-- The tokens minted with the semaphores go to the devices that perform the duties. -/
theorem toks_around : (bigSep Finset.univ fun c : Dev nD => (toks c : sProp 𝕄)) ⊢ bigSep Finset.univ fun c : Dev nD => payToks c := by
  have h4 (c : Dev nD) := four (F := F) c fun g => dutyTok ER g 0 false
  unfold toks payToks
  simp only [h4, bigSep_sep']
  rw [bigSep_univ_equiv xs (fun c : Dev nD => (dutyTok ER (cBar c) 0 false : sProp 𝕄)),
    bigSep_univ_equiv ys (fun c : Dev nD => (dutyTok ER (cBar c) 0 true : sProp 𝕄)),
    bigSep_univ_equiv xs (fun c : Dev nD => (fam (fun n => dutyTok ER (cRx c n) 0 false) 0 16 : sProp 𝕄)),
    bigSep_univ_equiv ys (fun c : Dev nD => (fam (fun n => dutyTok ER (cRy c n) 0 false) 0 16 : sProp 𝕄))]
  iintro ⟨⟨⟨H1, H2, H3, H4⟩, H5⟩, H6⟩
  isplitl [H5]; · iexact H5
  isplitl [H6]; · iexact H6
  isplitl [H1]; · iexact H1
  isplitl [H2]; · iexact H2
  isplitl [H3]; · iexact H3
  iexact H4

/-- What persists may be used for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The ghost state of all devices, shared out: the records to all, the rest to each. -/
theorem regroup :
    (bigSep Finset.univ fun c : Dev nD => iprop((bigSep Finset.univ fun i => iprop(∃ κ : ℕ, cellInv ER (Rd X0 D0) κ (kcell (c, i))))
          ∗ (bigSep Finset.univ fun i : CI => iprop(atPos ER (kcell (c, i)) 0 ∅ 0 ∗ reached ER (kcell (c, i)) 0)) ∗ toks c ∗ locals c) : sProp 𝕄)
      ⊢ bigSep Finset.univ (G' X0 D0) := by
  rw [bigSep_sep', bigSep_sep', bigSep_sep', ← bigSep_univ_prod (fun p : Dev nD × CI => iprop(∃ κ : ℕ, cellInv ER (Rd X0 D0) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok, Hloc⟩
  ihave HK := (BI.bigSep_exists_pi Finset.univ (fun (p : Dev nD × CI) (κ : ℕ) => (cellInv ER (Rd X0 D0) κ (kcell p) : sProp 𝕄))) $$ HI
  icases HK with ⟨%K, #HI⟩
  ihave Htk := (toks_around (F := F)) $$ Htok
  have hall : ∀ c ∈ (Finset.univ : Finset (Dev nD)), iprop(records X0 D0 K ∗ linear c) ⊢ G' X0 D0 c := fun c _ => by
    unfold G'
    iintro H
    iexists K
    iexact H
  iapply (with_persistent hall)
  isplitr
  · unfold records; isplitl; · iexact HI
    iexact HR
  · unfold linear
    simp only [bigSep_sep']
    isplitl [Hat]; · iexact Hat
    isplitl [Htk]; · iexact Htk
    iexact Hloc

/-- The global step. -/
theorem glob : (bigSep Finset.univ fun c => iprop(Pipeline.ownSems0 (Ix := Unit) (Name := ℕ) (U := UU) (Lvl := ℕ) (Val := Elt F) (τ := τ) osem c ∗ unscopedSems0 c ∗ G X0 D0 c) : sProp 𝕄)
    ⊢ |={Set.univ}=> bigSep Finset.univ (G' X0 D0) :=
  ((bigSep_mono fun c _ => core_alloc X0 D0 c).trans (bigSep_fupd _ _)).trans (BI.fupd_mono (regroup X0 D0))

/-! ## The launch credit -/

/-- Two shared semaphores are equal exactly when device and number are. -/
theorem cell_eq_iff {a b : Dev nD} {i j : CI} : kcell (a, i) = kcell (b, j) ↔ a = b ∧ i = j :=
  ⟨fun h => Prod.mk.injEq _ _ _ _ ▸ kcell_injective h, fun h => by rw [h.1, h.2]⟩

/-- An arrival along `x`, by its place in the enumeration. -/
theorem rx_cell (c : Dev nD) {n : ℕ} (h : n < 16) : cRx c n = kcell (c, some (1, ⟨n, h⟩)) := rfl
/-- An arrival along `y`, by its place in the enumeration. -/
theorem ry_cell (c : Dev nD) {n : ℕ} (h : n < 16) : cRy c n = kcell (c, some (3, ⟨n, h⟩)) := rfl
/-- The barrier, by its place in the enumeration. -/
theorem bar_cell (c : Dev nD) : cBar c = kcell (c, none) := rfl

/-- What device `d` owes at a semaphore at launch. -/
theorem owes_at (d : Dev nD) (g : GSem nD τ sig) : O₀ d g () =
    (∑ i ∈ Finset.Ico 0 16, if g = cRx (xPeer d) i then N else 0) + (∑ i ∈ Finset.Ico 0 16, if g = cRy (yPeer d) i then N else 0)
      + (if g = cBar (yPeer d) then 1 else 0) + (if g = cBar (xPeer d) then 1 else 0) := by
  unfold O₀ owed
  simp only [Pi.add_apply, Finsupp.add_apply, Finset.sum_apply, Finsupp.finset_sum_apply, tallyAt_apply, and_true]

/-- The barrier is no arrival along `x`. -/
theorem bar_ne_rx (a b : Dev nD) {n : ℕ} (h : n < 16) : cBar a ≠ cRx b n := fun e => by
  rw [rx_cell b h, bar_cell] at e; exact absurd (cell_eq_iff.mp e).2 (by simp)
/-- The barrier is no arrival along `y`. -/
theorem bar_ne_ry (a b : Dev nD) {n : ℕ} (h : n < 16) : cBar a ≠ cRy b n := fun e => by
  rw [ry_cell b h, bar_cell] at e; exact absurd (cell_eq_iff.mp e).2 (by simp)
/-- An arrival along `x` is none along `y`. -/
theorem rx_ne_ry (a b : Dev nD) {i n : ℕ} (hi : i < 16) (h : n < 16) : cRx a i ≠ cRy b n := fun e => by
  rw [ry_cell b h, rx_cell a hi] at e; exact absurd (cell_eq_iff.mp e).2 (by simp)
/-- Two arrivals along `x` are the same semaphore exactly for the same device and chunk. -/
theorem rx_eq_iff (a b : Dev nD) {i n : ℕ} (hi : i < 16) (h : n < 16) : cRx a i = cRx b n ↔ a = b ∧ i = n := by
  rw [rx_cell a hi, rx_cell b h, cell_eq_iff]; simp
/-- Two arrivals along `y` are the same semaphore exactly for the same device and chunk. -/
theorem ry_eq_iff (a b : Dev nD) {i n : ℕ} (hi : i < 16) (h : n < 16) : cRy a i = cRy b n ↔ a = b ∧ i = n := by
  rw [ry_cell a hi, ry_cell b h, cell_eq_iff]; simp
/-- Two barriers are the same semaphore exactly for the same device. -/
theorem bar_eq_iff (a b : Dev nD) : cBar a = cBar b ↔ a = b := by
  rw [bar_cell, bar_cell, cell_eq_iff]; simp
/-- Being the `x` neighbour goes both ways. -/
theorem x_turn (c d : Dev nD) : c = xPeer d ↔ d = xPeer c := ⟨fun h => by rw [h, xPeer_xPeer], fun h => by rw [h, xPeer_xPeer]⟩
/-- Being the `y` neighbour goes both ways. -/
theorem y_turn (c d : Dev nD) : c = yPeer d ↔ d = yPeer c := ⟨fun h => by rw [h, yPeer_yPeer], fun h => by rw [h, yPeer_yPeer]⟩

/-- A barrier is owed a unit by each of its device's neighbours. -/
theorem owes_bar (d c : Dev nD) : O₀ d (cBar c) () = (if d = yPeer c then 1 else 0) + (if d = xPeer c then 1 else 0) := by
  rw [owes_at, Finset.sum_eq_zero fun i hi => if_neg (bar_ne_rx c (xPeer d) (Finset.mem_Ico.mp hi).2),
    Finset.sum_eq_zero fun i hi => if_neg (bar_ne_ry c (yPeer d) (Finset.mem_Ico.mp hi).2)]
  simp only [bar_eq_iff, x_turn c d, y_turn c d, Nat.zero_add]

/-- An arrival along `x` is owed by the `x` neighbour alone. -/
theorem owes_rx (d c : Dev nD) {n : ℕ} (hn : n < 16) : O₀ d (cRx c n) () = if d = xPeer c then N else 0 := by
  rw [owes_at, Finset.sum_eq_zero fun i hi => if_neg (rx_ne_ry c (yPeer d) hn (Finset.mem_Ico.mp hi).2),
    if_neg (bar_ne_rx (yPeer d) c hn).symm, if_neg (bar_ne_rx (xPeer d) c hn).symm,
    Finset.sum_eq_single_of_mem n (Finset.mem_Ico.mpr ⟨Nat.zero_le _, hn⟩) fun i hi hne => if_neg fun e => hne ((rx_eq_iff c (xPeer d) hn (Finset.mem_Ico.mp hi).2).mp e).2.symm]
  simp only [rx_eq_iff c (xPeer d) hn hn, and_true, x_turn c d, Nat.add_zero]

/-- An arrival along `y` is owed by the `y` neighbour alone. -/
theorem owes_ry (d c : Dev nD) {n : ℕ} (hn : n < 16) : O₀ d (cRy c n) () = if d = yPeer c then N else 0 := by
  rw [owes_at, Finset.sum_eq_zero fun i hi => if_neg (rx_ne_ry (xPeer d) c (Finset.mem_Ico.mp hi).2 hn).symm,
    if_neg (bar_ne_ry (yPeer d) c hn).symm, if_neg (bar_ne_ry (xPeer d) c hn).symm,
    Finset.sum_eq_single_of_mem n (Finset.mem_Ico.mpr ⟨Nat.zero_le _, hn⟩) fun i hi hne => if_neg fun e => hne ((ry_eq_iff c (yPeer d) hn (Finset.mem_Ico.mp hi).2).mp e).2.symm]
  simp only [ry_eq_iff c (yPeer d) hn hn, and_true, y_turn c d, Nat.add_zero, Nat.zero_add]

/-- A cell's launch credit, from what each device owes it. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The launch's credit of a barrier is two. -/
theorem credit_bar (c : Dev nD) : tallyOn (cBar c) (launchCredit (Pipeline.owing O₀) 0 (cBar c)) = (tallyAt (cBar c) () 2 : CellTallies nD τ sig Unit) :=
  credit_at _ _ (by
    rw [Finset.sum_congr rfl fun d _ => owes_bar d c, Finset.sum_add_distrib, Finset.sum_ite_eq' Finset.univ (yPeer c) fun _ => 1,
      Finset.sum_ite_eq' Finset.univ (xPeer c) fun _ => 1, if_pos (Finset.mem_univ _), if_pos (Finset.mem_univ _)])
/-- The launch's credit of an arrival along `x` is a chunk's. -/
theorem credit_rx_cell (c : Dev nD) {n : ℕ} (hn : n < 16) :
    tallyOn (cRx c n) (launchCredit (Pipeline.owing O₀) 0 (cRx c n)) = (tallyAt (cRx c n) () N : CellTallies nD τ sig Unit) :=
  credit_at _ _ (by
    rw [Finset.sum_congr rfl fun d _ => owes_rx d c hn, Finset.sum_ite_eq' Finset.univ (xPeer c) fun _ => N, if_pos (Finset.mem_univ _)])
/-- The launch's credit of an arrival along `y` is a chunk's. -/
theorem credit_ry_cell (c : Dev nD) {n : ℕ} (hn : n < 16) :
    tallyOn (cRy c n) (launchCredit (Pipeline.owing O₀) 0 (cRy c n)) = (tallyAt (cRy c n) () N : CellTallies nD τ sig Unit) :=
  credit_at _ _ (by
    rw [Finset.sum_congr rfl fun d _ => owes_ry d c hn, Finset.sum_ite_eq' Finset.univ (yPeer c) fun _ => N, if_pos (Finset.mem_univ _)])

/-- The credits device `c` has at launch, of the units it will receive. -/
theorem creds (c : Dev nD) :
    (Pipeline.launchCred O₀ c : sProp 𝕄)
      ⊢ iprop(cred (tallyAt (cBar c) () 2) ∗ fam (fun n => cred (tallyAt (cRx c n) () N)) 0 16 ∗ fam (fun n => cred (tallyAt (cRy c n) () N)) 0 16) := by
  have hsub : (Pipeline.launchCred O₀ c : sProp 𝕄)
      ⊢ bigSep (Finset.univ.map (⟨csem, csem_injective⟩ : CI ↪ SemLoc sig)) fun sm : SemLoc sig =>
          cred (tallyOn ((c : Thread nD τ), sm) (launchCredit (Pipeline.owing O₀) 0 ((c : Thread nD τ), sm))) := by
    unfold Pipeline.launchCred
    exact BI.bigSep_subset (Finset.subset_univ _)
  have hbar := credit_bar c
  have hrx : fam (fun n => cred (tallyOn (cRx c n) (launchCredit (Pipeline.owing O₀) 0 (cRx c n)))) 0 16 ⊢ (fam (fun n => cred (tallyAt (cRx c n) () N)) 0 16 : sProp 𝕄) :=
    fam_mono_lt 0 16 fun i _ hi => by rw [credit_rx_cell c hi]
  have hry : fam (fun n => cred (tallyOn (cRy c n) (launchCredit (Pipeline.owing O₀) 0 (cRy c n)))) 0 16 ⊢ (fam (fun n => cred (tallyAt (cRy c n) () N)) 0 16 : sProp 𝕄) :=
    fam_mono_lt 0 16 fun i _ hi => by rw [credit_ry_cell c hi]
  refine hsub.trans ?_
  rw [bigSep_map, split_ci]
  have h4 := four (F := F) c fun g => cred (tallyOn g (launchCredit (Pipeline.owing O₀) 0 g))
  iintro ⟨H4, Hb⟩
  ihave H4 := (show (bigSep Finset.univ fun p : Fin 4 × Fin 16 => cred (tallyOn (kcell (c, some p)) (launchCredit (Pipeline.owing O₀) 0 (kcell (c, some p)))) : sProp 𝕄) ⊢ _
    from Entails.of_eq h4) $$ H4
  icases H4 with ⟨-, Hx, -, Hy⟩
  isplitl [Hb]; · iapply (show cred (tallyOn (cBar c) (launchCredit (Pipeline.owing O₀) 0 (cBar c))) ⊢ (cred (tallyAt (cBar c) () 2) : sProp 𝕄) from by rw [hbar]); iexact Hb
  isplitl [Hx]; · iapply hrx; iexact Hx
  iapply hry; iexact Hy

end Cert.KernelIdeal.Flow

end
-- ==== Proof.Start.lean ====
module

public import proofs.«01_k».proof.Proof.Deal
public import Idealize.ShloMosaic.Lib.Pipeline.CollectiveSegs

@[expose] public section

set_option maxRecDepth 16384

/-! # The run of the four devices -/

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The arguments as launched. -/
def X0 (c : Dev nD) : Vec F S2048x2048 .f32 := m ((c : Thread nD τ).loc main_arg0)
/-- The argument `dy` as launched. -/
def D0 (c : Dev nD) : Vec F S2048x8192 .f32 := m ((c : Thread nD τ).loc main_arg1)

/-! ## The state before the body and after it -/

/-- The unscoped arrays, and the ghost state: what device `c` has when its kernel is called. -/
def start (c : Dev nD) : sProp 𝕄 :=
  iprop((∃ K, env (X0 m) (D0 m) K) ∗ linear c
    ∗ (cred (tallyAt (cBar c) () 2) ∗ fam (fun n => cred (tallyAt (cRx c n) () N)) 0 16 ∗ fam (fun n => cred (tallyAt (cRy c n) () N)) 0 16)
    ∗ owns (c : Thread nD τ) xIn fullShare (X0 m c) ∗ owns (c : Thread nD τ) dyIn fullShare (D0 m c) ∗ anyAt c outM)

/-- With the scratch buffers. -/
def Φ₀ (c : Dev nD) : sProp 𝕄 :=
  iprop((∃ K, env (X0 m) (D0 m) K) ∗ (owesAny c (O₀ c) -∗ begins (X0 m) (D0 m) c))

/-- After the body. -/
def Φ₁ (c : Dev nD) : sProp 𝕄 :=
  iprop(owns (c : Thread nD τ) xIn fullShare (X0 m c) ∗ owns (c : Thread nD τ) dyIn fullShare (D0 m c) ∗ owns (c : Thread nD τ) outM fullShare (OUT (X0 m) (D0 m) c)
    ∗ tools c ∗ semVal (cBar c) 0 ∗ fam (goneX c) 0 16 ∗ fam (fun n => semVal (cRx c n) 0) 0 16 ∗ fam (goneY c) 0 16 ∗ fam (fun n => semVal (cRy c n) 0) 0 16)

/-- The one call's data: no windows, the state before and after, and what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Nothing is held for windows, as there are none. -/
theorem no_windows (Ψ : Fin cfg0.W → sProp 𝕄) : bigSep Finset.univ Ψ = iprop(emp) := by
  rw [show (Finset.univ : Finset (Fin cfg0.W)) = ∅ from Finset.eq_empty_of_forall_notMem fun w => w.elim0, BI.bigSep_empty]
  rfl

/-- The row the launch calls is the body written by chunks. -/
theorem row_eq : defs₀ (F := F) .tc cfg0.body (cfg0.bodyArgs t0_0 (cfg0.slots t0_0)) = body := by
  refine Eq.trans ?_ (bodyAt0_eq t0_0)
  sl_kernel_rfl

/-- The printed body meets the launch's obligation. -/
theorem body_obligation (c : Dev nD) : BodyObligation (dats (F := F) m 0 c) (defs₀ (F := F)) 𝒱₀ () Set.univ := fun t => by
  rw [fin_N0 t]
  rw [no_windows, no_windows]
  rw [row_eq, show (dats m 0 c).Φ t0_0.castSucc = Φ₀ m c from rfl, show (dats m 0 c).Φ t0_0.succ = Φ₁ m c from rfl]
  unfold body
  simp only [Prog.lift, Prog.bind_op, Prog.bind_ret, Prog.pure_eq_ret, wp_deviceId]
  unfold Φ₀ Dat.owesAt Pipeline.owesWithin
  rw [show (dats m 0 c).owed t0_0.castSucc = O₀ c from rfl, show (dats m 0 c).owed t0_0.succ = 0 from rfl]
  iintro ⟨⟨⟨%K, #He⟩, Hb⟩, ⟨%W, %hW, HO⟩, -⟩
  iapply (body_ok (X0 m) (D0 m) K c)
  isplitr; · iexact He
  isplitl [Hb HO]
  · iapply Hb; unfold owesAny; iexists W; iexact HO
  unfold ends Φ₁ owesAny
  iintro ⟨H1, H2, H3, H4, H5, H6, H7, H8, H9, ⟨%W', HO⟩⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HO]
  · iexists W'
    isplitr; · ipureintro; exact fun _ _ => Or.inl trivial
    iexact HO
  iempintro

/-! ## The launch's side conditions -/

/-- A whole buffer at some contents gives the memref over it at some contents. -/
theorem any_whole (c : Dev nD) (b : Ref sig .tc) :
    iprop(∃ f : Buf (Elt F) ((c : Thread nD τ).loc b), ((c : Thread nD τ).loc b) ↦{fullShare} f) ⊢ (anyAt c (Memref.whole b) : sProp 𝕄) := by
  unfold anyAt
  iintro ⟨%f, H⟩
  iexists f
  iapply (Entails.of_eq (owns_whole (Ix := Unit) (Name := ℕ) (U := UU) (Lvl := ℕ) (c : Thread nD τ) b fullShare f).symm)
  iexact H
/-- The memref over a whole buffer, at some contents, is the buffer at some contents. -/
theorem whole_any (c : Dev nD) (b : Ref sig .tc) :
    (anyAt c (Memref.whole b) : sProp 𝕄) ⊢ iprop(∃ f : Buf (Elt F) ((c : Thread nD τ).loc b), ((c : Thread nD τ).loc b) ↦{fullShare} f) := by
  unfold anyAt
  iintro ⟨%f, H⟩
  iexists f
  iapply (Entails.of_eq (owns_whole (Ix := Unit) (Name := ℕ) (U := UU) (Lvl := ℕ) (c : Thread nD τ) b fullShare f))
  iexact H
/-- A whole buffer at known contents, as the memref over it. -/
theorem whole_at (c : Dev nD) (b : Ref sig .tc) (f : Buf (Elt F) ((c : Thread nD τ).loc b)) :
    (((c : Thread nD τ).loc b) ↦{fullShare} f : sProp 𝕄) = owns (c : Thread nD τ) (Memref.whole b) fullShare f :=
  (owns_whole (Ix := Unit) (Name := ℕ) (U := UU) (Lvl := ℕ) (c : Thread nD τ) b fullShare f).symm

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (X0 m) (D0 m) c)
      ⊢ |={Set.univ}=> iprop(start m c ∗ emp) := by
  rw [Pipeline.unscopedRestP_none, unscopedRest0_eq]
  unfold start G' records env
  iintro ⟨⟨Hx, Hd, Ho⟩, #Hlev, Hcr, -, ⟨%K, ⟨#HI, #HR⟩, Hlin⟩⟩
  ihave Hc := (creds (F := F) c) $$ Hcr
  imodintro
  isplitl
  · isplitr
    · iexists K
      isplitr; · iexact HI
      isplitr; · iexact HR
      iexact Hlev
    isplitl [Hlin]; · iexact Hlin
    isplitl [Hc]; · iexact Hc
    isplitl [Hx]; · iapply (Entails.of_eq (whole_at c main_arg0 (m ((c : Thread nD τ).loc main_arg0)))); iexact Hx
    isplitl [Hd]; · iapply (Entails.of_eq (whole_at c main_arg1 (m ((c : Thread nD τ).loc main_arg1)))); iexact Hd
    iapply (any_whole c main_v1)
    iexists _
    iexact Ho
  · iempintro

/-- The scratch buffers, the local semaphores at zero: what a body works with. -/
theorem tools_intro (c : Dev nD) : iprop(Pipeline.scopedRest cfg0.spec c ∗ locals c) ⊢ (tools c : sProp 𝕄) := by
  rw [scopedRest0_eq]
  unfold locals tools
  iintro ⟨⟨H0, H1, H2, H3, H4, H5, H6, H7, H8, H9, H10, H11, H12, H13, H14⟩, ⟨Hx, Hd⟩, Hs, Hy⟩
  ihave Hx := (fam_pop _ (by decide : 0 < 2)) $$ Hx; icases Hx with ⟨Hx0, Hx⟩
  ihave Hx := (fam_pop _ (by decide : 1 < 2)) $$ Hx; icases Hx with ⟨Hx1, -⟩
  ihave Hd := (fam_pop _ (by decide : 0 < 2)) $$ Hd; icases Hd with ⟨Hd0, Hd⟩
  ihave Hd := (fam_pop _ (by decide : 1 < 2)) $$ Hd; icases Hd with ⟨Hd1, -⟩
  isplitl [H0]; · iapply (any_whole c cc0_scratch0); iexact H0
  isplitl [H1 Hx0]
  · unfold xReady
    isplitl [H1]; · iapply (any_whole c cc0_scratch1); iexact H1
    iexact Hx0
  isplitl [H2 Hx1]
  · unfold xReady
    isplitl [H2]; · iapply (any_whole c cc0_scratch2); iexact H2
    iexact Hx1
  isplitl [H3 Hd0]
  · unfold dyReady
    isplitl [H3]; · iapply (any_whole c cc0_scratch3); iexact H3
    iexact Hd0
  isplitl [H4 Hd1]
  · unfold dyReady
    isplitl [H4]; · iapply (any_whole c cc0_scratch4); iexact H4
    iexact Hd1
  isplitl [H5]; · iapply (any_whole c cc0_scratch5); iexact H5
  isplitl [H6 H7 H8 H9 Hs]
  · iapply (show iprop(fam (fun n => anyAt c (pB n)) 0 4 ∗ fam (fun n => semVal ((c : Thread nD τ), .dma (stSem n)) 0) 0 4) ⊢ (fam (pReady c) 0 4 : sProp 𝕄) from by
      rw [← fam_sep]; exact .rfl)
    isplitr [Hs]
    · iapply (fam_push _ (by decide : 0 ≤ 3))
      isplitr [H9]
      · iapply (fam_push _ (by decide : 0 ≤ 2))
        isplitr [H8]
        · iapply (fam_push _ (by decide : 0 ≤ 1))
          isplitr [H7]
          · iapply (fam_push _ (by decide : 0 ≤ 0))
            isplitr [H6]
            · iapply (fam_nil (F := F) _ 0); iempintro
            · iapply (any_whole c cc0_scratch6); iexact H6
          · iapply (any_whole c cc0_scratch7); iexact H7
        · iapply (any_whole c cc0_scratch8); iexact H8
      · iapply (any_whole c cc0_scratch9); iexact H9
    · iexact Hs
  isplitl [H10]; · iapply (any_whole c cc0_scratch10); iexact H10
  isplitl [H11]; · iapply (any_whole c cc0_scratch11); iexact H11
  isplitl [H12]; · iapply (any_whole c cc0_scratch12); iexact H12
  isplitl [H13]; · iapply (any_whole c cc0_scratch13); iexact H13
  iapply (show iprop(fam (fun n => anyAt c (slotOf ytM n)) 0 4 ∗ fam (fun n => semVal ((c : Thread nD τ), .dma (ystSem n)) 0) 0 4) ⊢ (fam (ytReady c) 0 4 : sProp 𝕄) from by
    rw [← fam_sep]; exact .rfl)
  isplitr [Hy]
  · iapply (show anyAt c ytM ⊢ (fam (fun n => anyAt c (slotOf ytM n)) 0 4 : sProp 𝕄) from any_split c tile_slot)
    iapply (any_whole c cc0_scratch14); iexact H14
  · iexact Hy

/-- The scratch memory and local semaphores that the body gives back are those that the launch gave. -/
theorem tools_elim (c : Dev nD) : (tools c : sProp 𝕄) ⊢ iprop(Pipeline.scopedRest cfg0.spec c ∗ locals c) := by
  rw [scopedRest0_eq]
  unfold locals tools xReady dyReady
  iintro ⟨H0, ⟨H1, Hx0⟩, ⟨H2, Hx1⟩, ⟨H3, Hd0⟩, ⟨H4, Hd1⟩, H5, Hp, H10, H11, H12, H13, Hy⟩
  ihave Hp := (show (fam (pReady c) 0 4 : sProp 𝕄) ⊢ iprop(fam (fun n => anyAt c (pB n)) 0 4 ∗ fam (fun n => semVal ((c : Thread nD τ), .dma (stSem n)) 0) 0 4) from by
    rw [← fam_sep]; exact .rfl) $$ Hp
  icases Hp with ⟨Hp, Hs⟩
  ihave Hp := (fam_pop _ (by decide : 0 < 4)) $$ Hp; icases Hp with ⟨H6, Hp⟩
  ihave Hp := (fam_pop _ (by decide : 1 < 4)) $$ Hp; icases Hp with ⟨H7, Hp⟩
  ihave Hp := (fam_pop _ (by decide : 2 < 4)) $$ Hp; icases Hp with ⟨H8, Hp⟩
  ihave Hp := (fam_pop _ (by decide : 3 < 4)) $$ Hp; icases Hp with ⟨H9, -⟩
  ihave Hy := (show (fam (ytReady c) 0 4 : sProp 𝕄) ⊢ iprop(fam (fun n => anyAt c (slotOf ytM n)) 0 4 ∗ fam (fun n => semVal ((c : Thread nD τ), .dma (ystSem n)) 0) 0 4) from by
    rw [← fam_sep]; exact .rfl) $$ Hy
  icases Hy with ⟨H14, Hy⟩
  ihave H14 := (show (fam (fun n => anyAt c (slotOf ytM n)) 0 4 : sProp 𝕄) ⊢ anyAt c ytM from any_join c tile_slot) $$ H14
  isplitl [H0 H1 H2 H3 H4 H5 H6 H7 H8 H9 H10 H11 H12 H13 H14]
  · isplitl [H0]; · iapply (whole_any c cc0_scratch0); iexact H0
    isplitl [H1]; · iapply (whole_any c cc0_scratch1); iexact H1
    isplitl [H2]; · iapply (whole_any c cc0_scratch2); iexact H2
    isplitl [H3]; · iapply (whole_any c cc0_scratch3); iexact H3
    isplitl [H4]; · iapply (whole_any c cc0_scratch4); iexact H4
    isplitl [H5]; · iapply (whole_any c cc0_scratch5); iexact H5
    isplitl [H6]; · iapply (whole_any c cc0_scratch6); iexact H6
    isplitl [H7]; · iapply (whole_any c cc0_scratch7); iexact H7
    isplitl [H8]; · iapply (whole_any c cc0_scratch8); iexact H8
    isplitl [H9]; · iapply (whole_any c cc0_scratch9); iexact H9
    isplitl [H10]; · iapply (whole_any c cc0_scratch10); iexact H10
    isplitl [H11]; · iapply (whole_any c cc0_scratch11); iexact H11
    isplitl [H12]; · iapply (whole_any c cc0_scratch12); iexact H12
    isplitl [H13]; · iapply (whole_any c cc0_scratch13); iexact H13
    iapply (whole_any c cc0_scratch14); iexact H14
  isplitl [Hx0 Hx1 Hd0 Hd1]
  · isplitl [Hx0 Hx1]
    · iapply (fam_push _ (by decide : 0 ≤ 1))
      isplitr [Hx1]
      · iapply (fam_push _ (by decide : 0 ≤ 0))
        isplitr [Hx0]
        · iapply (fam_nil (F := F) _ 0); iempintro
        · iexact Hx0
      · iexact Hx1
    · iapply (fam_push _ (by decide : 0 ≤ 1))
      isplitr [Hd1]
      · iapply (fam_push _ (by decide : 0 ≤ 0))
        isplitr [Hd0]
        · iapply (fam_nil (F := F) _ 0); iempintro
        · iexact Hd0
      · iexact Hd1
  isplitl [Hs] <;> iassumption

/-- Two families give one of what their members give in pairs. -/
theorem fam_pair {P P' Q : ℕ → sProp 𝕄} (h : ∀ n, iprop(P n ∗ P' n) ⊢ Q n) : iprop(fam P 0 16 ∗ fam P' 0 16) ⊢ fam Q 0 16 := by
  rw [← fam_sep]; exact fam_mono 0 16 h

/-- What a device starts with, and its scratch buffers, are all that the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold start Φ₀ linear payToks
  rw [split_ci, four c fun g => atPos ER g 0 ∅ 0]
  iintro ⟨⟨He, ⟨⟨⟨Ha0, Ha1, Ha2, Ha3⟩, Hab⟩, ⟨Htx, Hty, Ht0, Ht1, Ht2, Ht3⟩, Hloc⟩, ⟨Hcb, Hcx, Hcy⟩, Hx, Hd, Ho⟩, -, Hr⟩
  ihave Ht := (tools_intro c) $$ [Hr Hloc]
  · isplitl [Hr]; · iexact Hr
    iexact Hloc
  isplitl [He]; · iexact He
  iintro HO
  unfold begins
  isplitl [Hx]; · iexact Hx
  isplitl [Hd]; · iexact Hd
  isplitl [Ho]; · iexact Ho
  isplitl [Ht]; · iexact Ht
  isplitl [Htx Hty Hcb Hab]
  · isplitl [Htx]; · iexact Htx
    isplitl [Hty]; · iexact Hty
    isplitl [Hcb]; · iexact Hcb
    iexact Hab
  isplitl [Ht0 Ht1 Ha0]
  · unfold toksX
    iapply (Entails.of_eq (fam_sep (F := F) (fun n => dutyTok ER (cSx c n) 0 false) (fun n => iprop(dutyTok ER (cRx (xPeer c) n) 0 false ∗ atPos ER (cSx c n) 0 ∅ 0)) 0 16).symm)
    isplitl [Ht0]; · iexact Ht0
    iapply (Entails.of_eq (fam_sep (F := F) (fun n => dutyTok ER (cRx (xPeer c) n) 0 false) (fun n => atPos ER (cSx c n) 0 ∅ 0) 0 16).symm)
    isplitl [Ht1] <;> iassumption
  isplitl [Ht2 Ht3 Ha2]
  · unfold toksY
    iapply (Entails.of_eq (fam_sep (F := F) (fun n => dutyTok ER (cSy c n) 0 false) (fun n => iprop(dutyTok ER (cRy (yPeer c) n) 0 false ∗ atPos ER (cSy c n) 0 ∅ 0)) 0 16).symm)
    isplitl [Ht2]; · iexact Ht2
    iapply (Entails.of_eq (fam_sep (F := F) (fun n => dutyTok ER (cRy (yPeer c) n) 0 false) (fun n => atPos ER (cSy c n) 0 ∅ 0) 0 16).symm)
    isplitl [Ht3] <;> iassumption
  isplitl [Hcx Ha1]
  · unfold awaitX
    iapply (Entails.of_eq (fam_sep (F := F) (fun n => cred (tallyAt (cRx c n) () N)) (fun n => atPos ER (cRx c n) 0 ∅ 0) 0 16).symm)
    isplitl [Hcx] <;> iassumption
  isplitl [Hcy Ha3]
  · unfold awaitY
    iapply (Entails.of_eq (fam_sep (F := F) (fun n => cred (tallyAt (cRy c n) () N)) (fun n => atPos ER (cRy c n) 0 ∅ 0) 0 16).symm)
    isplitl [Hcy] <;> iassumption
  iexact HO

/-- What the end of the run is read from. -/
def last (c : Dev nD) : sProp 𝕄 :=
  iprop(unscopedSems0 c ∗ Pipeline.unscopedRest cfg0.spec c (fun b => if h : b = main_v1 then h ▸ OUT (X0 m) (D0 m) c else m ((c : Thread nD τ).loc b)))

/-- What the body ends with gives the semaphores and the scratch buffers back. -/
theorem phi1_exit (c : Dev nD) :
    (dats m 0 c).Φ (Fin.last cfg0.N) ⊢ iprop(last m c ∗ Pipeline.ownSems0 osem c ∗ Pipeline.scopedRest cfg0.spec c) := by
  rw [show (dats m 0 c).Φ (Fin.last cfg0.N) = Φ₁ m c from rfl, ownSems0_eq]
  unfold Φ₁ last
  rw [unscopedSems0_eq, unscopedRest0_eq, four c fun g => semVal g 0]
  iintro ⟨Hx, Hd, Ho, Ht, Hb, H0, H1, H2, H3⟩
  ihave Ht := (tools_elim c) $$ Ht
  icases Ht with ⟨Hr, Hl⟩
  isplitl [Hb Hx Hd Ho]
  · isplitl [Hb]; · iexact Hb
    isplitl [Hx]; · iapply (Entails.of_eq (whole_at c main_arg0 (m ((c : Thread nD τ).loc main_arg0))).symm); iexact Hx
    isplitl [Hd]; · iapply (Entails.of_eq (whole_at c main_arg1 (m ((c : Thread nD τ).loc main_arg1))).symm); iexact Hd
    iapply (Entails.of_eq (whole_at c main_v1 (OUT (X0 m) (D0 m) c)).symm); iexact Ho
  isplitl [H0 H1 H2 H3 Hl]
  · isplitr [Hl]
    · isplitl [H0]; · iexact H0
      isplitl [H1]; · iexact H1
      isplitl [H2]; · iexact H2
      iexact H3
    · iexact Hl
  iexact Hr

/-- There is no window to wait for. -/
theorem waits (c : Dev nD) : (levAts L lv : sProp 𝕄) ⊢ Pipeline.cellsWaits cfgs (dats m) () 0 c :=
  Pipeline.cellsWaits_intro cfgs (dats m) () 0 c fun w => w.elim0

/-- The ring's own half of the ghost pair. -/
theorem own_left (a : UB) (k : Counters) :
    (BI.own ((embR : Emb (UB × Counters) (MT nD τ sig Unit (Elt F) ℕ UU ℕ)) (a, k)) : sProp 𝕄) ⊢ BI.own (ER a) := by
  have h : (BI.own ((embR : Emb (UB × Counters) (MT nD τ sig Unit (Elt F) ℕ UU ℕ)) (a, k)) : sProp 𝕄)
      ⊢ iprop(BI.own ((embR : Emb (UB × Counters) (MT nD τ sig Unit (Elt F) ℕ UU ℕ)) (a, 1))
        ∗ BI.own ((embR : Emb (UB × Counters) (MT nD τ sig Unit (Elt F) ℕ UU ℕ)) (1, k))) :=
    BI.own_op_elim ((embR : Emb (UB × Counters) (MT nD τ sig Unit (Elt F) ℕ UU ℕ)).op_of_mem
      (Prod.mk_mem_op (URA.mem_op_one a) (URA.mem_one_op k)))
  iintro H
  ihave H := h $$ H
  icases H with ⟨H, -⟩
  iexact H

/-- The result is an array that outlives the kernel. -/
theorem mem_v1 : main_v1 ∈ (Finset.univ.filter fun b : Ref sig .tc => ¬ b.isScoped) \ Finset.univ.image (Pipeline.arrRef cfg0.spec) := by decide
/-- The argument `x` is an array that outlives the kernel. -/
theorem mem_arg0 : main_arg0 ∈ (Finset.univ.filter fun b : Ref sig .tc => ¬ b.isScoped) \ Finset.univ.image (Pipeline.arrRef cfg0.spec) := by decide
/-- The argument `dy` is an array that outlives the kernel. -/
theorem mem_arg1 : main_arg1 ∈ (Finset.univ.filter fun b : Ref sig .tc => ¬ b.isScoped) \ Finset.univ.image (Pipeline.arrRef cfg0.spec) := by decide

/-! ## The run -/

/-- From any memory with zero counters, every fair run of the kernel on the four devices ends, with the result of
    each device at `OUT`, the arguments as they were, and every semaphore at zero. -/
theorem run_main : θ_run defs (onTc (τ := τ) (main (F := F))) ⟨m, fun _ => 0, ρ⟩ (fun r =>
    (∀ c : Dev nD, r.2.mem ((c : Thread nD τ).loc main_v1) = OUT (X0 m) (D0 m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (X0 m) (D0 m)) (G' := G' (X0 m) (D0 m)) (u₀ := u₀)
    (hu₀ := by
      unfold u₀
      iintro Hu
      ihave H := (ownU_pair _ _) $$ Hu
      icases H with ⟨HP, HX⟩
      ihave HX := (own_left _ _) $$ HX
      imod (fund_ring (X0 m) (D0 m)) $$ HX with HG
      imodintro
      isplitl [HP] <;> iassumption)
    (hglob := glob (X0 m) (D0 m))
    (hA := fun _ w => w.elim0) (hpf := fun _ k => k.elim0)
    (X := start m) (Y := last m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_v1) = OUT (X0 m) (D0 m) c
      ∧ s.mem ((c : Thread nD τ).loc main_arg0) = m ((c : Thread nD τ).loc main_arg0)
      ∧ s.mem ((c : Thread nD τ).loc main_arg1) = m ((c : Thread nD τ).loc main_arg1))
    (hY := fun c s' => by
      unfold last Pipeline.unscopedRest
      iintro ⟨⟨Hu, Hr⟩, -, HSI⟩
      ihave Hq := (pointsTo_read_all _ (fun b => (c.tc : Thread nD τ).loc b) _ s') $$ [Hr HSI]
      · isplitl [Hr] <;> iassumption
      icases Hq with ⟨%hq, HSI⟩
      imod (Pipeline.unscopedSems0_read (X := unscopedSems0 c) (c := c) fupd_intro s') $$ [Hu HSI] with ⟨%hs, HSI⟩
      · isplitl [Hu] <;> iassumption
      imodintro
      isplitr
      · ipureintro
        exact ⟨hs, hq main_v1 mem_v1, hq main_arg0 mem_arg0, hq main_arg1 mem_arg1⟩
      iexact HSI)
    (hQ := fun _ h hs => ⟨fun c => (h c).2.2.2, sem_eq_zero hs fun c => (h c).2.2.1⟩)

end Cert.KernelIdeal.Flow

end
-- ==== Proof.Value.lean ====
module

public import proofs.«01_k».proof.Proof.Start
public import proofs.«01_k».proof.Defs
public import proofs.«01_k».proof.Proof.Gen.ReferenceIdeal.Run
public import Idealize.ShloMosaic.Lib.Pointwise
public import Idealize.ShloMosaic.Lib.Pipeline.Value

@[expose] public section

set_option maxRecDepth 16384

/-! # The values, in exact arithmetic

Each device's block of the result, element by element, is the sum of two sums over 2048 rows: one over the rows its
own half of the mesh holds, one over the others'. The reference's element is one sum over all 4096 rows. -/

noncomputable section

namespace Cert.KernelIdeal.Flow

open Idealize.ShloMosaic Idealize.ShloMosaic.TcCoe
open Idealize.ShloMosaic.Pointwise
open Idealize.SL.Sem
open Cert.KernelIdeal.Gen

variable (X0 : Dev nD → Vec Ideal S2048x2048 .f32) (D0 : Dev nD → Vec Ideal S2048x8192 .f32)

/-- Column `r` of device `c`'s block of `x` against column `j` of its block of `dy`. -/
def dotAt (c : Dev nD) (r : Fin 2048) (j : Fin 8192) : EReal := ∑ k : Fin 2048, X0 c (ix2 k r) * D0 c (ix2 k j)

/-- Taking a unit axis on and dropping it again changes nothing. -/
theorem unstage_cast {e : EltTy} (v : Vec Ideal S1024x256 e) (h : S1024x256.ShapeCasts S1x1024x256) : unstage (F := Ideal) (shapeCast S1x1024x256 v h) = v := by
  funext j
  show v (Shape.reshapeEquiv _ (Shape.reshapeEquiv _ j)) = v j
  rw [Shape.reshapeEquiv_reshapeEquiv, Shape.reshapeEquiv_self]

/-- Rounding a chunk of `dy` changes nothing. -/
theorem pay6_eq (v : Vec Ideal S2048x256 .f32) (i : S2048x256.Idx) : k0_pay6 (F := Ideal) v i = v i :=
  congrFun (shapeCast_self _ _) i
/-- A chunk's product is, at each element, a sum over the rows of the device's blocks. -/
theorem pay7_eq (a : Vec Ideal S2048x2048 .bf16) (b : Vec Ideal S2048x256 .bf16) (r : Fin 2048) (k : Fin 256) :
    k0_pay7 (F := Ideal) a b (ix2 r k) = ∑ t : Fin 2048, a (ix2 t r) * b (ix2 t k) := by
  pointwise [k0_pay7]
/-- Staging a chunk for the `x` neighbour changes nothing. -/
theorem unstage_pay8 (v : Vec Ideal S1024x256 .f32) : unstage (F := Ideal) (e := .bf16) (k0_pay8 v) = v := unstage_cast _ _
/-- Staging a chunk for the `y` neighbour changes nothing. -/
theorem unstage_pay13 (v : Vec Ideal S1024x256 .f32) : unstage (F := Ideal) (e := .bf16) (k0_pay13 v) = v := unstage_cast _ _
/-- Widening the neighbour's chunk changes nothing. -/
theorem unstage_pay26 (v : Vec Ideal S1024x256 .bf16) : unstage (F := Ideal) (e := .f32) (k0_pay26 v) = v := unstage_cast _ _
/-- A finished chunk is, at each element, the sum of its two parts. -/
theorem pay12_eq (a : Vec Ideal S1024x256 .f32) (b : Vec Ideal S1024x256 .bf16) (i : S1024x256.Idx) : k0_pay12 (F := Ideal) a b i = (a i + b i : EReal) :=
  congrFun (shapeCast_self (addf (F := Ideal) (φ := .f32) a (extf (F := Ideal) (φ := .bf16) .f32 b bitsLt_bf16_f32)) shapeCasts_S1024x256_S1024x256) i

/-- A chunk's product, at an element: the chunk's columns start at `4096 · y + 256 · n`. -/
theorem P_at (c : Dev nD) {n : ℕ} (hn : n < 16) (r : Fin 2048) (k : Fin 256) (j : Fin 8192) (hj : j.val = 4096 * (c.val % 2) + 256 * n + k.val) :
    P X0 D0 c n (ix2 r k) = dotAt X0 D0 c r j := by
  unfold P dotAt
  rw [pay7_eq]
  refine Finset.sum_congr rfl fun t _ => ?_
  rw [pay6_eq]
  have h : (dyR c n).emb (ix2 t k) = ix2 t j := by
    funext a
    fin_cases a
    · refine Fin.ext ?_
      show ((dyR c n).emb (ix2 t k) (0 : Fin 2)).val = t.val
      rw [Rect.emb_apply]
      show k0_off1 c (BitVec.ofNat 32 (256 * (n % 16))) 0 + 1 * t.val = _
      rw [k0_off1_eq c (fin16 n)]
      show 0 + 1 * t.val = _
      omega
    · refine Fin.ext ?_
      show ((dyR c n).emb (ix2 t k) (1 : Fin 2)).val = j.val
      rw [Rect.emb_apply]
      show k0_off1 c (BitVec.ofNat 32 (256 * (n % 16))) 1 + 1 * k.val = _
      rw [k0_off1_eq c (fin16 n)]
      show 4096 * (c.val % 2) + 256 * (n % 16) + 1 * k.val = _
      omega
  show (X0 c (ix2 t r) * D0 c ((dyR c n).emb (ix2 t k)) : EReal) = _
  rw [h]

/-- The `x` neighbour has the same half of the columns. -/
theorem xPeer_col (c : Dev nD) : (xPeer c).val % 2 = c.val % 2 := by revert c; decide
/-- The `x` neighbour has the other rows. -/
theorem xPeer_row (c : Dev nD) : (xPeer c).val / 2 = 1 - c.val / 2 := by revert c; decide
/-- The `y` neighbour has the other half of the columns. -/
theorem yPeer_col (c : Dev nD) : (yPeer c).val % 2 = 1 - c.val % 2 := by revert c; decide
/-- The `y` neighbour has the same rows. -/
theorem yPeer_row (c : Dev nD) : (yPeer c).val / 2 = c.val / 2 := by revert c; decide
/-- A device's row of the mesh is one of two. -/
theorem row_lt (c : Dev nD) : c.val / 2 < 2 := by revert c; decide

/-- A finished chunk: this device's product and its neighbour's, at the rows this device finishes. -/
theorem QF_at (c : Dev nD) {n : ℕ} (hn : n < 16) (i : Fin 1024) (k : Fin 256) (r : Fin 2048) (hr : r.val = 1024 * (c.val / 2) + i.val)
    (j : Fin 8192) (hj : j.val = 4096 * (c.val % 2) + 256 * n + k.val) :
    QF X0 D0 c n (ix2 i k) = (dotAt X0 D0 c r j + dotAt X0 D0 (xPeer c) r j : EReal) := by
  unfold QF RX SBv
  rw [pay12_eq, unstage_pay8]
  have hc := row_lt c
  have h1 : (mineR c).emb (ix2 i k) = ix2 r k := by
    funext a
    fin_cases a
    · refine Fin.ext ?_
      show ((mineR c).emb (ix2 i k) (0 : Fin 2)).val = r.val
      rw [Rect.emb_apply]
      show k0_off3 c 0 + 1 * i.val = _
      rw [k0_off3_eq c]
      show 1024 * (c.val / 2) + 1 * i.val = _
      omega
    · refine Fin.ext ?_
      show ((mineR c).emb (ix2 i k) (1 : Fin 2)).val = k.val
      rw [Rect.emb_apply]
      show k0_off3 c 1 + 1 * k.val = _
      rw [k0_off3_eq c]
      show 0 + 1 * k.val = _
      omega
  have h2 : (otherR (xPeer c)).emb (ix2 i k) = ix2 r k := by
    funext a
    fin_cases a
    · refine Fin.ext ?_
      show ((otherR (xPeer c)).emb (ix2 i k) (0 : Fin 2)).val = r.val
      rw [Rect.emb_apply]
      show k0_off2 (xPeer c) 0 + 1 * i.val = _
      rw [k0_off2_eq (xPeer c)]
      show 1024 - 1024 * ((xPeer c).val / 2) + 1 * i.val = _
      rw [xPeer_row]
      omega
    · refine Fin.ext ?_
      show ((otherR (xPeer c)).emb (ix2 i k) (1 : Fin 2)).val = k.val
      rw [Rect.emb_apply]
      show k0_off2 (xPeer c) 1 + 1 * k.val = _
      rw [k0_off2_eq (xPeer c)]
      show 0 + 1 * k.val = _
      omega
  show (P X0 D0 c n ((mineR c).emb (ix2 i k)) + P X0 D0 (xPeer c) n ((otherR (xPeer c)).emb (ix2 i k)) : EReal) = _
  rw [h1, h2, P_at X0 D0 c hn r k j hj, P_at X0 D0 (xPeer c) hn r k j (by rw [xPeer_col]; exact hj)]

/-- What came from the `y` neighbour is the neighbour's finished chunk. -/
theorem OY_eq (c : Dev nD) (n : ℕ) : OY X0 D0 c n = QF X0 D0 (yPeer c) n := by
  unfold OY RY
  rw [unstage_pay26, unstage_pay13]

section Whole

variable (X : (⟨2, ![4096, 2048]⟩ : Shape).Idx → EReal) (D : (⟨2, ![4096, 8192]⟩ : Shape).Idx → EReal)

/-- Row `k` of block `b`, in the whole. -/
abbrev rowOf (b : ℕ) (hb : b < 2) (k : Fin 2048) : Fin 4096 := ⟨2048 * b + k.val, by have := k.isLt; omega⟩

/-- Block `b`'s share of an element of the product. -/
def share (b : ℕ) (hb : b < 2) (r : Fin 2048) (j : Fin 8192) : EReal := ∑ k : Fin 2048, X (ix2 (rowOf b hb k) r) * D (ix2 (rowOf b hb k) j)

/-- The whole product's element. -/
def full (r : Fin 2048) (j : Fin 8192) : EReal := ∑ k : Fin 4096, X (ix2 k r) * D (ix2 k j)

/-- The whole product's element is the sum of the two blocks' shares. -/
theorem full_eq (r : Fin 2048) (j : Fin 8192) : full X D r j = (share X D 0 (by decide) r j + share X D 1 (by decide) r j : EReal) := by
  unfold full share
  rw [Fin.sum_univ_two_halves 2048 2048 rfl]
  congr 1
  all_goals
    refine Finset.sum_congr rfl fun k _ => ?_
    congr 3
    all_goals (refine Fin.ext ?_; simp [rowOf])

/-- Every mesh axis along which the arrays are cut has a positive length. -/
theorem live : ∀ b : Fin 2, ∀ i ∈ (![[0], []] : Fin 2 → List ℕ) b, 0 < [2, 2].getD i 0 := by decide
/-- Which block a device holds. -/
abbrev meshAt (c : Dev nD) := Layout.meshBlock (r := 2) [2, 2] ![[0], []] c live
/-- Two blocks of rows tile `x`. -/
theorem tilesX : Layout.TilesN ⟨2, ![2048, 2048]⟩ ⟨2, ![4096, 2048]⟩ (fun b => Layout.cutSize [2, 2] ((![[0], []] : Fin 2 → List ℕ) b)) := by decide
/-- Two blocks of rows tile `dy`. -/
theorem tilesD : Layout.TilesN ⟨2, ![2048, 8192]⟩ ⟨2, ![4096, 8192]⟩ (fun b => Layout.cutSize [2, 2] ((![[0], []] : Fin 2 → List ℕ) b)) := by decide
/-- Two blocks of rows tile the result. -/
theorem tilesO : Layout.TilesN ⟨2, ![1024, 8192]⟩ ⟨2, ![2048, 8192]⟩ (fun b => Layout.cutSize [2, 2] ((![[0], []] : Fin 2 → List ℕ) b)) := by decide

variable (hX : ∀ c, X0 c = Layout.blockN ⟨2, ![2048, 2048]⟩ ⟨2, ![4096, 2048]⟩ (meshAt c) X tilesX)
  (hD : ∀ c, D0 c = Layout.blockN ⟨2, ![2048, 8192]⟩ ⟨2, ![4096, 8192]⟩ (meshAt c) D tilesD)

/-- A device's block of rows is its place along `x`. -/
theorem mesh0 (c : Dev nD) : (meshAt c (0 : Fin 2)).val = c.val / 2 := by revert c; decide
/-- A device's block of columns is the only one. -/
theorem mesh1 (c : Dev nD) : (meshAt c (1 : Fin 2)).val = 0 := by revert c; decide

include hX hD in
/-- A device's products are its block's share. -/
theorem dotAt_eq (c : Dev nD) (r : Fin 2048) (j : Fin 8192) : dotAt X0 D0 c r j = share X D (c.val / 2) (row_lt c) r j := by
  unfold dotAt share
  refine Finset.sum_congr rfl fun k _ => ?_
  rw [hX, hD, Layout.blockN_apply, Layout.blockN_apply]
  congr 2
  · funext a
    fin_cases a
    · refine Fin.ext ?_
      rw [Layout.TilesN.idx_val]
      show (meshAt c (0 : Fin 2)).val * 2048 + k.val = 2048 * (c.val / 2) + k.val
      rw [mesh0]; omega
    · refine Fin.ext ?_
      rw [Layout.TilesN.idx_val]
      show (meshAt c (1 : Fin 2)).val * 2048 + r.val = r.val
      rw [mesh1]; omega
  · funext a
    fin_cases a
    · refine Fin.ext ?_
      rw [Layout.TilesN.idx_val]
      show (meshAt c (0 : Fin 2)).val * 2048 + k.val = 2048 * (c.val / 2) + k.val
      rw [mesh0]; omega
    · refine Fin.ext ?_
      rw [Layout.TilesN.idx_val]
      show (meshAt c (1 : Fin 2)).val * 8192 + j.val = j.val
      rw [mesh1]; omega

include hX hD in
/-- A device's product and its `x` neighbour's make the whole one. -/
theorem dots_eq (c : Dev nD) (r : Fin 2048) (j : Fin 8192) :
    (dotAt X0 D0 c r j + dotAt X0 D0 (xPeer c) r j : EReal) = full X D r j := by
  rw [dotAt_eq X0 D0 X D hX hD, dotAt_eq X0 D0 X D hX hD, full_eq]
  have hp := xPeer_row c
  have key : ∀ a b (ha : a < 2) (hb : b < 2), b = 1 - a →
      (share X D a ha r j + share X D b hb r j : EReal) = share X D 0 (by decide) r j + share X D 1 (by decide) r j := by
    rintro a _ ha hb rfl
    obtain rfl | rfl : a = 0 ∨ a = 1 := by omega
    · rfl
    · exact add_comm _ _
  exact key _ _ _ _ hp

include hX hD in
/-- Each element of a device's block of the result. -/
theorem OUT_at (c : Dev nD) (i : Fin 1024) (j : Fin 8192) (r : Fin 2048) (hr : r.val = 1024 * (c.val / 2) + i.val) :
    OUT X0 D0 c (ix2 i j) = full X D r j := by
  have hj := j.isLt
  have hn : j.val % 4096 / 256 < 16 := by omega
  unfold OUT
  show (if j.val / 4096 = c.val % 2 then QF X0 D0 c (j.val % 4096 / 256) (ix2 i ⟨j.val % 256, _⟩) else OY X0 D0 c (j.val % 4096 / 256) (ix2 i ⟨j.val % 256, _⟩)) = _
  split
  · rename_i h
    rw [QF_at X0 D0 c hn i _ r hr j (by show j.val = 4096 * (c.val % 2) + 256 * (j.val % 4096 / 256) + j.val % 256; omega)]
    exact dots_eq X0 D0 X D hX hD c r j
  · rename_i h
    have hc := yPeer_col c
    rw [OY_eq, QF_at X0 D0 (yPeer c) hn i _ r (by rw [yPeer_row]; exact hr) j
      (by show j.val = 4096 * ((yPeer c).val % 2) + 256 * (j.val % 4096 / 256) + j.val % 256; omega)]
    exact dots_eq X0 D0 X D hX hD (yPeer c) r j

/-- The reference's product. -/
def REF : (⟨2, ![2048, 8192]⟩ : Shape).Idx → EReal := fun i => full X D (i (0 : Fin 2)) (i (1 : Fin 2))

/-- The reference's transpose and product is the full sum at every element. -/
theorem ref_eq (x : FVec Ideal Cert.ReferenceIdeal.S4096x2048 .f32) (d : FVec Ideal Cert.ReferenceIdeal.S4096x8192 .f32) :
    Host.dotGeneral Cert.ReferenceIdeal.dot_S2048x4096_S4096x8192_S2048x8192_1_0_0_1_n_n none
      (transpose Cert.ReferenceIdeal.S2048x4096 [1, 0] x Cert.ReferenceIdeal.Gen.transposes_S4096x2048_S2048x4096_1_0) d = REF x d := by
  funext i
  pointwise [REF, full]

include hX hD in
/-- Each device's block of the result is its block of the reference's. -/
theorem OUT_eq (c : Dev nD) :
    OUT X0 D0 c = Layout.blockN ⟨2, ![1024, 8192]⟩ ⟨2, ![2048, 8192]⟩ (meshAt c) (REF X D) tilesO := by
  funext i
  obtain ⟨a, b, rfl⟩ : ∃ (a : Fin 1024) (b : Fin 8192), i = ix2 a b := ⟨i 0, i 1, eq_ix2 i⟩
  rw [Layout.blockN_apply]
  have hc := row_lt c
  rw [OUT_at X0 D0 X D hX hD c a b ⟨1024 * (c.val / 2) + a.val, by have := a.isLt; omega⟩ rfl]
  unfold REF
  congr 1
  · refine Fin.ext ?_
    rw [Layout.TilesN.idx_val]
    show _ = (meshAt c (0 : Fin 2)).val * 1024 + a.val
    rw [mesh0]
    show 1024 * (c.val / 2) + a.val = _
    omega
  · refine Fin.ext ?_
    rw [Layout.TilesN.idx_val]
    show _ = (meshAt c (1 : Fin 2)).val * 8192 + b.val
    rw [mesh1]; omega

end Whole

end Cert.KernelIdeal.Flow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as compiled ends on every device, with its arguments as they were and every semaphore at zero: the run
    of the idealized program, which is the same program, at machine words. -/
theorem frame_kernel : Cert.quiescent_Kernel := fun m ρ _ =>
  (θ_run Cert.KernelIdeal.defs _ _).mono (fun _ h => ⟨fun c => (h.1 c).2, h.2⟩) (Cert.KernelIdeal.Flow.run_main (F := Bits) m ρ)

/-- The same in exact arithmetic. -/
theorem frame_ideal : Cert.quiescent_KernelIdeal := fun m ρ _ =>
  (θ_run Cert.KernelIdeal.defs _ _).mono (fun _ h => ⟨fun c => (h.1 c).2, h.2⟩) (Cert.KernelIdeal.Flow.run_main (F := Ideal) m ρ)

/-- The reference ends with its arguments as they were; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In exact arithmetic each device ends with its block of the reference's product of the whole arrays. -/
theorem value : Cert.algebraic_KernelIdeal_ReferenceIdeal := fun m ρ m' ρ' _ hagree =>
  ⟨Cert.KernelIdeal.Flow.REF (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.KernelIdeal.Flow.OUT_eq _ _ _ _ (fun c => (hagree c).1) (fun c => (hagree c).2) c), (h.1 c).2⟩)
      (Cert.KernelIdeal.Flow.run_main (F := Ideal) m ρ),
    (θ_run Cert.ReferenceIdeal.defs _ _).mono (fun _ h => ⟨(h 0).1.trans (Cert.KernelIdeal.Flow.ref_eq _ _), (h 0).2⟩)
      (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, frame_kernel, frame_ideal, frame_reference, trivial, value⟩

end Cert.Proof

end
